-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x1024 : Shape := ⟨3, ![4, 4096, 1024]⟩
abbrev S4096x1024 : Shape := ⟨2, ![4096, 1024]⟩
abbrev S8x1024 : Shape := ⟨2, ![8, 1024]⟩
abbrev S_ : Shape := ⟨0, ![]⟩
abbrev S1x8x1024 : Shape := ⟨3, ![1, 8, 1024]⟩
abbrev S1x16 : Shape := ⟨2, ![1, 16]⟩
abbrev S16 : Shape := ⟨1, ![16]⟩

abbrev nBuf : Table → Nat
  | .hbm => 3
  | .local .scVector .vmem => 15
  | _ => 0

abbrev bufTy : (tb : Table) → Fin (nBuf tb) → BufTy
  | .hbm, ⟨0, _⟩ => ⟨S4x4096x1024, .f32⟩
  | .hbm, ⟨1, _⟩ => ⟨S4096x1024, .f32⟩
  | .hbm, ⟨2, _⟩ => ⟨S4x4096x1024, .f32⟩
  | .local .scVector .vmem, ⟨0, _⟩ => ⟨S8x1024, .f32⟩
  | .local .scVector .vmem, ⟨1, _⟩ => ⟨S8x1024, .f32⟩
  | .local .scVector .vmem, ⟨2, _⟩ => ⟨S8x1024, .f32⟩
  | .local .scVector .vmem, ⟨3, _⟩ => ⟨S8x1024, .f32⟩
  | .local .scVector .vmem, ⟨4, _⟩ => ⟨S8x1024, .f32⟩
  | .local .scVector .vmem, ⟨5, _⟩ => ⟨S8x1024, .f32⟩
  | .local .scVector .vmem, ⟨6, _⟩ => ⟨S8x1024, .f32⟩
  | .local .scVector .vmem, ⟨7, _⟩ => ⟨S8x1024, .f32⟩
  | .local .scVector .vmem, ⟨8, _⟩ => ⟨S8x1024, .f32⟩
  | .local .scVector .vmem, ⟨9, _⟩ => ⟨S8x1024, .f32⟩
  | .local .scVector .vmem, ⟨10, _⟩ => ⟨S8x1024, .f32⟩
  | .local .scVector .vmem, ⟨11, _⟩ => ⟨S8x1024, .f32⟩
  | .local .scVector .vmem, ⟨12, _⟩ => ⟨S8x1024, .f32⟩
  | .local .scVector .vmem, ⟨13, _⟩ => ⟨S8x1024, .f32⟩
  | .local .scVector .vmem, ⟨14, _⟩ => ⟨S8x1024, .f32⟩
  | _, _ => ⟨S4x4096x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_0 : BitVec 32 := 0#32
  ![v3.toNat, 0]
def k0_off2 (i : grid0.Coords) (c0_i32 : BitVec 32) : Fin 3 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_3 : BitVec 32 := 0#32
  ![0, v3.toNat, 0]
def k0_off2_at (r : Fin 4) : BitVec 32 :=
  if r.val < 2 then
    if r.val < 1 then
      0#32
    else
      8#32
  else
    if r.val < 3 then
      16#32
    else
      120#32
def k0_off3 (i : grid0.Coords) (c0_i32 : BitVec 32) : Fin 3 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_5 : BitVec 32 := 0#32
  ![1, v3.toNat, 0]
def k0_off3_at (r : Fin 4) : BitVec 32 :=
  if r.val < 2 then
    if r.val < 1 then
      0#32
    else
      8#32
  else
    if r.val < 3 then
      16#32
    else
      120#32
def k0_off4 (i : grid0.Coords) (c0_i32 : BitVec 32) : Fin 3 → Nat :=
  let c2_i32_7 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_8 : BitVec 32 := 0#32
  ![2, v3.toNat, 0]
def k0_off4_at (r : Fin 4) : BitVec 32 :=
  if r.val < 2 then
    if r.val < 1 then
      0#32
    else
      8#32
  else
    if r.val < 3 then
      16#32
    else
      120#32
def k0_off5 (i : grid0.Coords) (c0_i32 : BitVec 32) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_10 : BitVec 32 := 0#32
  ![3, v3.toNat, 0]
def k0_off5_at (r : Fin 4) : BitVec 32 :=
  if r.val < 2 then
    if r.val < 1 then
      0#32
    else
      8#32
  else
    if r.val < 3 then
      16#32
    else
      120#32
@[reducible] def k0_t1_loop : Scf.Loop 32 :=
  let c0_i32_41 : BitVec 32 := 0#32
  let c64_i32 : BitVec 32 := 64#32
  let v60 : BitVec 32 := Scalar.addi c0_i32_41 c64_i32
  let c1_i32_42 : BitVec 32 := 1#32
  ⟨c0_i32_41, v60, c1_i32_42⟩
def k0_off6 (k0_t1 : Fin k0_t1_loop.trips) : Fin 2 → Nat :=
  let c0_i32_89 : BitVec 32 := 0#32
  let v117 : Index := Scalar.indexCast c0_i32_89
  let c0_i32_88 : BitVec 32 := 0#32
  let c0_i32_41 : BitVec 32 := 0#32
  let c1_i32_42 : BitVec 32 := 1#32
  let arg26 : BitVec 32 := Scf.iv c0_i32_41 c1_i32_42 k0_t1
  let c16_i32_87 : BitVec 32 := 16#32
  let v115 : BitVec 32 := Scalar.muli arg26 c16_i32_87
  let v116 : BitVec 32 := Scalar.addi c0_i32_88 v115
  let v118 : Index := Scalar.indexCast v116
  ![0, v118.toNat]
def k0_off7 (k0_t1 : Fin k0_t1_loop.trips) : Fin 2 → Nat :=
  let c1_i32_101 : BitVec 32 := 1#32
  let v169 : Index := Scalar.indexCast c1_i32_101
  let c0_i32_88 : BitVec 32 := 0#32
  let c0_i32_41 : BitVec 32 := 0#32
  let c1_i32_42 : BitVec 32 := 1#32
  let arg26 : BitVec 32 := Scf.iv c0_i32_41 c1_i32_42 k0_t1
  let c16_i32_87 : BitVec 32 := 16#32
  let v115 : BitVec 32 := Scalar.muli arg26 c16_i32_87
  let v116 : BitVec 32 := Scalar.addi c0_i32_88 v115
  let v170 : Index := Scalar.indexCast v116
  ![1, v170.toNat]
def k0_off8 (k0_t1 : Fin k0_t1_loop.trips) : Fin 2 → Nat :=
  let c2_i32_114 : BitVec 32 := 2#32
  let v221 : Index := Scalar.indexCast c2_i32_114
  let c0_i32_88 : BitVec 32 := 0#32
  let c0_i32_41 : BitVec 32 := 0#32
  let c1_i32_42 : BitVec 32 := 1#32
  let arg26 : BitVec 32 := Scf.iv c0_i32_41 c1_i32_42 k0_t1
  let c16_i32_87 : BitVec 32 := 16#32
  let v115 : BitVec 32 := Scalar.muli arg26 c16_i32_87
  let v116 : BitVec 32 := Scalar.addi c0_i32_88 v115
  let v222 : Index := Scalar.indexCast v116
  ![2, v222.toNat]
def k0_off9 (k0_t1 : Fin k0_t1_loop.trips) : Fin 2 → Nat :=
  let c3_i32_127 : BitVec 32 := 3#32
  let v273 : Index := Scalar.indexCast c3_i32_127
  let c0_i32_88 : BitVec 32 := 0#32
  let c0_i32_41 : BitVec 32 := 0#32
  let c1_i32_42 : BitVec 32 := 1#32
  let arg26 : BitVec 32 := Scf.iv c0_i32_41 c1_i32_42 k0_t1
  let c16_i32_87 : BitVec 32 := 16#32
  let v115 : BitVec 32 := Scalar.muli arg26 c16_i32_87
  let v116 : BitVec 32 := Scalar.addi c0_i32_88 v115
  let v274 : Index := Scalar.indexCast v116
  ![3, v274.toNat]
def k0_off10 (k0_t1 : Fin k0_t1_loop.trips) : Fin 2 → Nat :=
  let c4_i32 : BitVec 32 := 4#32
  let v325 : Index := Scalar.indexCast c4_i32
  let c0_i32_88 : BitVec 32 := 0#32
  let c0_i32_41 : BitVec 32 := 0#32
  let c1_i32_42 : BitVec 32 := 1#32
  let arg26 : BitVec 32 := Scf.iv c0_i32_41 c1_i32_42 k0_t1
  let c16_i32_87 : BitVec 32 := 16#32
  let v115 : BitVec 32 := Scalar.muli arg26 c16_i32_87
  let v116 : BitVec 32 := Scalar.addi c0_i32_88 v115
  let v326 : Index := Scalar.indexCast v116
  ![4, v326.toNat]
def k0_off11 (k0_t1 : Fin k0_t1_loop.trips) : Fin 2 → Nat :=
  let c5_i32_152 : BitVec 32 := 5#32
  let v377 : Index := Scalar.indexCast c5_i32_152
  let c0_i32_88 : BitVec 32 := 0#32
  let c0_i32_41 : BitVec 32 := 0#32
  let c1_i32_42 : BitVec 32 := 1#32
  let arg26 : BitVec 32 := Scf.iv c0_i32_41 c1_i32_42 k0_t1
  let c16_i32_87 : BitVec 32 := 16#32
  let v115 : BitVec 32 := Scalar.muli arg26 c16_i32_87
  let v116 : BitVec 32 := Scalar.addi c0_i32_88 v115
  let v378 : Index := Scalar.indexCast v116
  ![5, v378.toNat]
def k0_off12 (k0_t1 : Fin k0_t1_loop.trips) : Fin 2 → Nat :=
  let c6_i32 : BitVec 32 := 6#32
  let v429 : Index := Scalar.indexCast c6_i32
  let c0_i32_88 : BitVec 32 := 0#32
  let c0_i32_41 : BitVec 32 := 0#32
  let c1_i32_42 : BitVec 32 := 1#32
  let arg26 : BitVec 32 := Scf.iv c0_i32_41 c1_i32_42 k0_t1
  let c16_i32_87 : BitVec 32 := 16#32
  let v115 : BitVec 32 := Scalar.muli arg26 c16_i32_87
  let v116 : BitVec 32 := Scalar.addi c0_i32_88 v115
  let v430 : Index := Scalar.indexCast v116
  ![6, v430.toNat]
def k0_off13 (k0_t1 : Fin k0_t1_loop.trips) : Fin 2 → Nat :=
  let c7_i32 : BitVec 32 := 7#32
  let v481 : Index := Scalar.indexCast c7_i32
  let c0_i32_88 : BitVec 32 := 0#32
  let c0_i32_41 : BitVec 32 := 0#32
  let c1_i32_42 : BitVec 32 := 1#32
  let arg26 : BitVec 32 := Scf.iv c0_i32_41 c1_i32_42 k0_t1
  let c16_i32_87 : BitVec 32 := 16#32
  let v115 : BitVec 32 := Scalar.muli arg26 c16_i32_87
  let v116 : BitVec 32 := Scalar.addi c0_i32_88 v115
  let v482 : Index := Scalar.indexCast v116
  ![7, v482.toNat]
@[reducible] def k0_t2_loop : Scf.Loop 32 :=
  let c0_i32_72 : BitVec 32 := 0#32
  let c5_i32 : BitVec 32 := 5#32
  let v97 : BitVec 32 := Scalar.addi c0_i32_72 c5_i32
  let c1_i32_73 : BitVec 32 := 1#32
  ⟨c0_i32_72, v97, c1_i32_73⟩
def k0_off14 (i : grid0.Coords) (k0_t2 : Fin k0_t2_loop.trips) (c0_i32_89 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let v117 : BitVec 32 := Scalar.addi v116 c0_i32_89
  let c8_i32_90 : BitVec 32 := 8#32
  let v118 : BitVec 32 := Scalar.muli v117 c8_i32_90
  let v119 : BitVec 32 := Scalar.addi v2 v118
  let c0_i32_91 : BitVec 32 := 0#32
  ![v119.toNat, 0]
def k0_off15 (i : grid0.Coords) (k0_t2 : Fin k0_t2_loop.trips) (c0_i32_89 : BitVec 32) : Fin 3 → Nat :=
  let c0_i32_93 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let v117 : BitVec 32 := Scalar.addi v116 c0_i32_89
  let c8_i32_90 : BitVec 32 := 8#32
  let v118 : BitVec 32 := Scalar.muli v117 c8_i32_90
  let v119 : BitVec 32 := Scalar.addi v2 v118
  let c0_i32_94 : BitVec 32 := 0#32
  ![0, v119.toNat, 0]
def k0_off16 (i : grid0.Coords) (k0_t2 : Fin k0_t2_loop.trips) (c0_i32_89 : BitVec 32) : Fin 3 → Nat :=
  let c1_i32_96 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let v117 : BitVec 32 := Scalar.addi v116 c0_i32_89
  let c8_i32_90 : BitVec 32 := 8#32
  let v118 : BitVec 32 := Scalar.muli v117 c8_i32_90
  let v119 : BitVec 32 := Scalar.addi v2 v118
  let c0_i32_97 : BitVec 32 := 0#32
  ![1, v119.toNat, 0]
def k0_off17 (i : grid0.Coords) (k0_t2 : Fin k0_t2_loop.trips) (c0_i32_89 : BitVec 32) : Fin 3 → Nat :=
  let c2_i32_99 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let v117 : BitVec 32 := Scalar.addi v116 c0_i32_89
  let c8_i32_90 : BitVec 32 := 8#32
  let v118 : BitVec 32 := Scalar.muli v117 c8_i32_90
  let v119 : BitVec 32 := Scalar.addi v2 v118
  let c0_i32_100 : BitVec 32 := 0#32
  ![2, v119.toNat, 0]
def k0_off18 (i : grid0.Coords) (k0_t2 : Fin k0_t2_loop.trips) (c0_i32_89 : BitVec 32) : Fin 3 → Nat :=
  let c3_i32_102 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let v117 : BitVec 32 := Scalar.addi v116 c0_i32_89
  let c8_i32_90 : BitVec 32 := 8#32
  let v118 : BitVec 32 := Scalar.muli v117 c8_i32_90
  let v119 : BitVec 32 := Scalar.addi v2 v118
  let c0_i32_103 : BitVec 32 := 0#32
  ![3, v119.toNat, 0]
@[reducible] def k0_t3_loop : Scf.Loop 32 :=
  let c0_i32_105 : BitVec 32 := 0#32
  let c64_i32_106 : BitVec 32 := 64#32
  let v138 : BitVec 32 := Scalar.addi c0_i32_105 c64_i32_106
  let c1_i32_107 : BitVec 32 := 1#32
  ⟨c0_i32_105, v138, c1_i32_107⟩
def k0_off19 (k0_t3 : Fin k0_t3_loop.trips) : Fin 2 → Nat :=
  let c0_i32_245 : BitVec 32 := 0#32
  let v312 : Index := Scalar.indexCast c0_i32_245
  let c0_i32_244 : BitVec 32 := 0#32
  let c0_i32_105 : BitVec 32 := 0#32
  let c1_i32_107 : BitVec 32 := 1#32
  let arg27 : BitVec 32 := Scf.iv c0_i32_105 c1_i32_107 k0_t3
  let c16_i32_243 : BitVec 32 := 16#32
  let v310 : BitVec 32 := Scalar.muli arg27 c16_i32_243
  let v311 : BitVec 32 := Scalar.addi c0_i32_244 v310
  let v313 : Index := Scalar.indexCast v311
  ![0, v313.toNat]
def k0_off20 (k0_t3 : Fin k0_t3_loop.trips) : Fin 2 → Nat :=
  let c1_i32_257 : BitVec 32 := 1#32
  let v364 : Index := Scalar.indexCast c1_i32_257
  let c0_i32_244 : BitVec 32 := 0#32
  let c0_i32_105 : BitVec 32 := 0#32
  let c1_i32_107 : BitVec 32 := 1#32
  let arg27 : BitVec 32 := Scf.iv c0_i32_105 c1_i32_107 k0_t3
  let c16_i32_243 : BitVec 32 := 16#32
  let v310 : BitVec 32 := Scalar.muli arg27 c16_i32_243
  let v311 : BitVec 32 := Scalar.addi c0_i32_244 v310
  let v365 : Index := Scalar.indexCast v311
  ![1, v365.toNat]
def k0_off21 (k0_t3 : Fin k0_t3_loop.trips) : Fin 2 → Nat :=
  let c2_i32_270 : BitVec 32 := 2#32
  let v416 : Index := Scalar.indexCast c2_i32_270
  let c0_i32_244 : BitVec 32 := 0#32
  let c0_i32_105 : BitVec 32 := 0#32
  let c1_i32_107 : BitVec 32 := 1#32
  let arg27 : BitVec 32 := Scf.iv c0_i32_105 c1_i32_107 k0_t3
  let c16_i32_243 : BitVec 32 := 16#32
  let v310 : BitVec 32 := Scalar.muli arg27 c16_i32_243
  let v311 : BitVec 32 := Scalar.addi c0_i32_244 v310
  let v417 : Index := Scalar.indexCast v311
  ![2, v417.toNat]
def k0_off22 (k0_t3 : Fin k0_t3_loop.trips) : Fin 2 → Nat :=
  let c3_i32_283 : BitVec 32 := 3#32
  let v468 : Index := Scalar.indexCast c3_i32_283
  let c0_i32_244 : BitVec 32 := 0#32
  let c0_i32_105 : BitVec 32 := 0#32
  let c1_i32_107 : BitVec 32 := 1#32
  let arg27 : BitVec 32 := Scf.iv c0_i32_105 c1_i32_107 k0_t3
  let c16_i32_243 : BitVec 32 := 16#32
  let v310 : BitVec 32 := Scalar.muli arg27 c16_i32_243
  let v311 : BitVec 32 := Scalar.addi c0_i32_244 v310
  let v469 : Index := Scalar.indexCast v311
  ![3, v469.toNat]
def k0_off23 (k0_t3 : Fin k0_t3_loop.trips) : Fin 2 → Nat :=
  let c4_i32 : BitVec 32 := 4#32
  let v520 : Index := Scalar.indexCast c4_i32
  let c0_i32_244 : BitVec 32 := 0#32
  let c0_i32_105 : BitVec 32 := 0#32
  let c1_i32_107 : BitVec 32 := 1#32
  let arg27 : BitVec 32 := Scf.iv c0_i32_105 c1_i32_107 k0_t3
  let c16_i32_243 : BitVec 32 := 16#32
  let v310 : BitVec 32 := Scalar.muli arg27 c16_i32_243
  let v311 : BitVec 32 := Scalar.addi c0_i32_244 v310
  let v521 : Index := Scalar.indexCast v311
  ![4, v521.toNat]
def k0_off24 (k0_t3 : Fin k0_t3_loop.trips) : Fin 2 → Nat :=
  let c5_i32_308 : BitVec 32 := 5#32
  let v572 : Index := Scalar.indexCast c5_i32_308
  let c0_i32_244 : BitVec 32 := 0#32
  let c0_i32_105 : BitVec 32 := 0#32
  let c1_i32_107 : BitVec 32 := 1#32
  let arg27 : BitVec 32 := Scf.iv c0_i32_105 c1_i32_107 k0_t3
  let c16_i32_243 : BitVec 32 := 16#32
  let v310 : BitVec 32 := Scalar.muli arg27 c16_i32_243
  let v311 : BitVec 32 := Scalar.addi c0_i32_244 v310
  let v573 : Index := Scalar.indexCast v311
  ![5, v573.toNat]
def k0_off25 (k0_t3 : Fin k0_t3_loop.trips) : Fin 2 → Nat :=
  let c6_i32 : BitVec 32 := 6#32
  let v624 : Index := Scalar.indexCast c6_i32
  let c0_i32_244 : BitVec 32 := 0#32
  let c0_i32_105 : BitVec 32 := 0#32
  let c1_i32_107 : BitVec 32 := 1#32
  let arg27 : BitVec 32 := Scf.iv c0_i32_105 c1_i32_107 k0_t3
  let c16_i32_243 : BitVec 32 := 16#32
  let v310 : BitVec 32 := Scalar.muli arg27 c16_i32_243
  let v311 : BitVec 32 := Scalar.addi c0_i32_244 v310
  let v625 : Index := Scalar.indexCast v311
  ![6, v625.toNat]
def k0_off26 (k0_t3 : Fin k0_t3_loop.trips) : Fin 2 → Nat :=
  let c7_i32 : BitVec 32 := 7#32
  let v676 : Index := Scalar.indexCast c7_i32
  let c0_i32_244 : BitVec 32 := 0#32
  let c0_i32_105 : BitVec 32 := 0#32
  let c1_i32_107 : BitVec 32 := 1#32
  let arg27 : BitVec 32 := Scf.iv c0_i32_105 c1_i32_107 k0_t3
  let c16_i32_243 : BitVec 32 := 16#32
  let v310 : BitVec 32 := Scalar.muli arg27 c16_i32_243
  let v311 : BitVec 32 := Scalar.addi c0_i32_244 v310
  let v677 : Index := Scalar.indexCast v311
  ![7, v677.toNat]
def k0_off27 (i : grid0.Coords) (k0_t2 : Fin k0_t2_loop.trips) (c0_i32_89 : BitVec 32) : Fin 3 → Nat :=
  let c0_i32_124 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let v117 : BitVec 32 := Scalar.addi v116 c0_i32_89
  let c1_i32_122 : BitVec 32 := 1#32
  let v157 : BitVec 32 := Scalar.subi v117 c1_i32_122
  let c8_i32_123 : BitVec 32 := 8#32
  let v158 : BitVec 32 := Scalar.muli v157 c8_i32_123
  let v159 : BitVec 32 := Scalar.addi v2 v158
  let c0_i32_125 : BitVec 32 := 0#32
  ![0, v159.toNat, 0]
def k0_off28 (i : grid0.Coords) (k0_t2 : Fin k0_t2_loop.trips) (c0_i32_89 : BitVec 32) : Fin 3 → Nat :=
  let c1_i32_127 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let v117 : BitVec 32 := Scalar.addi v116 c0_i32_89
  let c1_i32_122 : BitVec 32 := 1#32
  let v157 : BitVec 32 := Scalar.subi v117 c1_i32_122
  let c8_i32_123 : BitVec 32 := 8#32
  let v158 : BitVec 32 := Scalar.muli v157 c8_i32_123
  let v159 : BitVec 32 := Scalar.addi v2 v158
  let c0_i32_128 : BitVec 32 := 0#32
  ![1, v159.toNat, 0]
def k0_off29 (i : grid0.Coords) (k0_t2 : Fin k0_t2_loop.trips) (c0_i32_89 : BitVec 32) : Fin 3 → Nat :=
  let c2_i32_130 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let v117 : BitVec 32 := Scalar.addi v116 c0_i32_89
  let c1_i32_122 : BitVec 32 := 1#32
  let v157 : BitVec 32 := Scalar.subi v117 c1_i32_122
  let c8_i32_123 : BitVec 32 := 8#32
  let v158 : BitVec 32 := Scalar.muli v157 c8_i32_123
  let v159 : BitVec 32 := Scalar.addi v2 v158
  let c0_i32_131 : BitVec 32 := 0#32
  ![2, v159.toNat, 0]
def k0_off30 (i : grid0.Coords) (k0_t2 : Fin k0_t2_loop.trips) (c0_i32_89 : BitVec 32) : Fin 3 → Nat :=
  let c3_i32_133 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let v117 : BitVec 32 := Scalar.addi v116 c0_i32_89
  let c1_i32_122 : BitVec 32 := 1#32
  let v157 : BitVec 32 := Scalar.subi v117 c1_i32_122
  let c8_i32_123 : BitVec 32 := 8#32
  let v158 : BitVec 32 := Scalar.muli v157 c8_i32_123
  let v159 : BitVec 32 := Scalar.addi v2 v158
  let c0_i32_134 : BitVec 32 := 0#32
  ![3, v159.toNat, 0]
def k0_cond1 (k0_t2 : Fin k0_t2_loop.trips) : BitVec 1 :=
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let c0_i32_89 : BitVec 32 := 0#32
  let v117 : BitVec 32 := Scalar.addi v116 c0_i32_89
  let c2_i32_136 : BitVec 32 := 2#32
  let v176 : BitVec 32 := Scalar.addi v117 c2_i32_136
  let c16_i32_137 : BitVec 32 := 16#32
  let v177 : BitVec 1 := Scalar.cmpi .slt v176 c16_i32_137
  let v178 : BitVec 32 := Scalar.extui v177
  let c0_i32_138 : BitVec 32 := 0#32
  let v179 : BitVec 1 := Scalar.cmpi .ne v178 c0_i32_138
  v179

def k0_off31 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let c0_i32_89 : BitVec 32 := 0#32
  let v117 : BitVec 32 := Scalar.addi v116 c0_i32_89
  let c2_i32_243 : BitVec 32 := 2#32
  let v310 : BitVec 32 := Scalar.addi v117 c2_i32_243
  let c8_i32_244 : BitVec 32 := 8#32
  let v311 : BitVec 32 := Scalar.muli v310 c8_i32_244
  let v312 : BitVec 32 := Scalar.addi v2 v311
  let c0_i32_245 : BitVec 32 := 0#32
  ![v312.toNat, 0]
def k0_off32 (i : grid0.Coords) (k0_t2 : Fin k0_t2_loop.trips) : Fin 3 → Nat :=
  let c0_i32_247 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let c0_i32_89 : BitVec 32 := 0#32
  let v117 : BitVec 32 := Scalar.addi v116 c0_i32_89
  let c2_i32_243 : BitVec 32 := 2#32
  let v310 : BitVec 32 := Scalar.addi v117 c2_i32_243
  let c8_i32_244 : BitVec 32 := 8#32
  let v311 : BitVec 32 := Scalar.muli v310 c8_i32_244
  let v312 : BitVec 32 := Scalar.addi v2 v311
  let c0_i32_248 : BitVec 32 := 0#32
  ![0, v312.toNat, 0]
def k0_off33 (i : grid0.Coords) (k0_t2 : Fin k0_t2_loop.trips) : Fin 3 → Nat :=
  let c1_i32_250 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let c0_i32_89 : BitVec 32 := 0#32
  let v117 : BitVec 32 := Scalar.addi v116 c0_i32_89
  let c2_i32_243 : BitVec 32 := 2#32
  let v310 : BitVec 32 := Scalar.addi v117 c2_i32_243
  let c8_i32_244 : BitVec 32 := 8#32
  let v311 : BitVec 32 := Scalar.muli v310 c8_i32_244
  let v312 : BitVec 32 := Scalar.addi v2 v311
  let c0_i32_251 : BitVec 32 := 0#32
  ![1, v312.toNat, 0]
def k0_off34 (i : grid0.Coords) (k0_t2 : Fin k0_t2_loop.trips) : Fin 3 → Nat :=
  let c2_i32_253 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let c0_i32_89 : BitVec 32 := 0#32
  let v117 : BitVec 32 := Scalar.addi v116 c0_i32_89
  let c2_i32_243 : BitVec 32 := 2#32
  let v310 : BitVec 32 := Scalar.addi v117 c2_i32_243
  let c8_i32_244 : BitVec 32 := 8#32
  let v311 : BitVec 32 := Scalar.muli v310 c8_i32_244
  let v312 : BitVec 32 := Scalar.addi v2 v311
  let c0_i32_254 : BitVec 32 := 0#32
  ![2, v312.toNat, 0]
def k0_off35 (i : grid0.Coords) (k0_t2 : Fin k0_t2_loop.trips) : Fin 3 → Nat :=
  let c3_i32_256 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_88 : BitVec 32 := 1#32
  let c3_i32_87 : BitVec 32 := 3#32
  let c0_i32_72 : BitVec 32 := 0#32
  let c1_i32_73 : BitVec 32 := 1#32
  let arg26 : BitVec 32 := Scf.iv c0_i32_72 c1_i32_73 k0_t2
  let v115 : BitVec 32 := Scalar.muli c3_i32_87 arg26
  let v116 : BitVec 32 := Scalar.addi c1_i32_88 v115
  let c0_i32_89 : BitVec 32 := 0#32
  let v117 : BitVec 32 := Scalar.addi v116 c0_i32_89
  let c2_i32_243 : BitVec 32 := 2#32
  let v310 : BitVec 32 := Scalar.addi v117 c2_i32_243
  let c8_i32_244 : BitVec 32 := 8#32
  let v311 : BitVec 32 := Scalar.muli v310 c8_i32_244
  let v312 : BitVec 32 := Scalar.addi v2 v311
  let c0_i32_257 : BitVec 32 := 0#32
  ![3, v312.toNat, 0]
@[reducible] def k0_t4_loop : Scf.Loop 32 :=
  let c0_i32_157 : BitVec 32 := 0#32
  let c64_i32_158 : BitVec 32 := 64#32
  let v203 : BitVec 32 := Scalar.addi c0_i32_157 c64_i32_158
  let c1_i32_159 : BitVec 32 := 1#32
  ⟨c0_i32_157, v203, c1_i32_159⟩
def k0_off36 (k0_t4 : Fin k0_t4_loop.trips) : Fin 2 → Nat :=
  let c0_i32_245 : BitVec 32 := 0#32
  let v312 : Index := Scalar.indexCast c0_i32_245
  let c0_i32_244 : BitVec 32 := 0#32
  let c0_i32_157 : BitVec 32 := 0#32
  let c1_i32_159 : BitVec 32 := 1#32
  let arg27 : BitVec 32 := Scf.iv c0_i32_157 c1_i32_159 k0_t4
  let c16_i32_243 : BitVec 32 := 16#32
  let v310 : BitVec 32 := Scalar.muli arg27 c16_i32_243
  let v311 : BitVec 32 := Scalar.addi c0_i32_244 v310
  let v313 : Index := Scalar.indexCast v311
  ![0, v313.toNat]
def k0_off37 (k0_t4 : Fin k0_t4_loop.trips) : Fin 2 → Nat :=
  let c1_i32_257 : BitVec 32 := 1#32
  let v364 : Index := Scalar.indexCast c1_i32_257
  let c0_i32_244 : BitVec 32 := 0#32
  let c0_i32_157 : BitVec 32 := 0#32
  let c1_i32_159 : BitVec 32 := 1#32
  let arg27 : BitVec 32 := Scf.iv c0_i32_157 c1_i32_159 k0_t4
  let c16_i32_243 : BitVec 32 := 16#32
  let v310 : BitVec 32 := Scalar.muli arg27 c16_i32_243
  let v311 : BitVec 32 := Scalar.addi c0_i32_244 v310
  let v365 : Index := Scalar.indexCast v311
  ![1, v365.toNat]
def k0_off38 (k0_t4 : Fin k0_t4_loop.trips) : Fin 2 → Nat :=
  let c2_i32_270 : BitVec 32 := 2#32
  let v416 : Index := Scalar.indexCast c2_i32_270
  let c0_i32_244 : BitVec 32 := 0#32
  let c0_i32_157 : BitVec 32 := 0#32
  let c1_i32_159 : BitVec 32 := 1#32
  let arg27 : BitVec 32 := Scf.iv c0_i32_157 c1_i32_159 k0_t4
  let c16_i32_243 : BitVec 32 := 16#32
  let v310 : BitVec 32 := Scalar.muli arg27 c16_i32_243
  let v311 : BitVec 32 := Scalar.addi c0_i32_244 v310
  let v417 : Index := Scalar.indexCast v311
  ![2, v417.toNat]
def k0_off39 (k0_t4 : Fin k0_t4_loop.trips) : Fin 2 → Nat :=
  let c3_i32_283 : BitVec 32 := 3#32
  let v468 : Index := Scalar.indexCast c3_i32_283
  let c0_i32_244 : BitVec 32 := 0#32
  let c0_i32_157 : BitVec 32 := 0#32
  let c1_i32_159 : BitVec 32 := 1#32
  let arg27 : BitVec 32 := Scf.iv c0_i32_157 c1_i32_159 k0_t4
  let c16_i32_243 : BitVec 32 := 16#32
  let v310 : BitVec 32 := Scalar.muli arg27 c16_i32_243
  let v311 : BitVec 32 := Scalar.addi c0_i32_244 v310
  let v469 : Index := Scalar.indexCast v311
  ![3, v469.toNat]
def k0_off40 (k0_t4 : Fin k0_t4_loop.trips) : Fin 2 → Nat :=
  let c4_i32 : BitVec 32 := 4#32
  let v520 : Index := Scalar.indexCast c4_i32
  let c0_i32_244 : BitVec 32 := 0#32
  let c0_i32_157 : BitVec 32 := 0#32
  let c1_i32_159 : BitVec 32 := 1#32
  let arg27 : BitVec 32 := Scf.iv c0_i32_157 c1_i32_159 k0_t4
  let c16_i32_243 : BitVec 32 := 16#32
  let v310 : BitVec 32 := Scalar.muli arg27 c16_i32_243
  let v311 : BitVec 32 := Scalar.addi c0_i32_244 v310
  let v521 : Index := Scalar.indexCast v311
  ![4, v521.toNat]
def k0_off41 (k0_t4 : Fin k0_t4_loop.trips) : Fin 2 → Nat :=
  let c5_i32_308 : BitVec 32 := 5#32
  let v572 : Index := Scalar.indexCast c5_i32_308
  let c0_i32_244 : BitVec 32 := 0#32
  let c0_i32_157 : BitVec 32 := 0#32
  let c1_i32_159 : BitVec 32 := 1#32
  let arg27 : BitVec 32 := Scf.iv c0_i32_157 c1_i32_159 k0_t4
  let c16_i32_243 : BitVec 32 := 16#32
  let v310 : BitVec 32 := Scalar.muli arg27 c16_i32_243
  let v311 : BitVec 32 := Scalar.addi c0_i32_244 v310
  let v573 : Index := Scalar.indexCast v311
  ![5, v573.toNat]
def k0_off42 (k0_t4 : Fin k0_t4_loop.trips) : Fin 2 → Nat :=
  let c6_i32 : BitVec 32 := 6#32
  let v624 : Index := Scalar.indexCast c6_i32
  let c0_i32_244 : BitVec 32 := 0#32
  let c0_i32_157 : BitVec 32 := 0#32
  let c1_i32_159 : BitVec 32 := 1#32
  let arg27 : BitVec 32 := Scf.iv c0_i32_157 c1_i32_159 k0_t4
  let c16_i32_243 : BitVec 32 := 16#32
  let v310 : BitVec 32 := Scalar.muli arg27 c16_i32_243
  let v311 : BitVec 32 := Scalar.addi c0_i32_244 v310
  let v625 : Index := Scalar.indexCast v311
  ![6, v625.toNat]
def k0_off43 (k0_t4 : Fin k0_t4_loop.trips) : Fin 2 → Nat :=
  let c7_i32 : BitVec 32 := 7#32
  let v676 : Index := Scalar.indexCast c7_i32
  let c0_i32_244 : BitVec 32 := 0#32
  let c0_i32_157 : BitVec 32 := 0#32
  let c1_i32_159 : BitVec 32 := 1#32
  let arg27 : BitVec 32 := Scf.iv c0_i32_157 c1_i32_159 k0_t4
  let c16_i32_243 : BitVec 32 := 16#32
  let v310 : BitVec 32 := Scalar.muli arg27 c16_i32_243
  let v311 : BitVec 32 := Scalar.addi c0_i32_244 v310
  let v677 : Index := Scalar.indexCast v311
  ![7, v677.toNat]
def k0_cond2 (k0_t2 : Fin k0_t2_loop.trips) : BitVec 1 :=
  let c1_i32_140 : BitVec 32 := 1#32
  let c3_i32_139 : BitVec 32 := 3#32
  let c0_i32_72 : BitVec 32 := 0#32
  let c1_i32_73 : BitVec 32 := 1#32
  let arg26 : BitVec 32 := Scf.iv c0_i32_72 c1_i32_73 k0_t2
  let v180 : BitVec 32 := Scalar.muli c3_i32_139 arg26
  let v181 : BitVec 32 := Scalar.addi c1_i32_140 v180
  let c1_i32_141 : BitVec 32 := 1#32
  let v182 : BitVec 32 := Scalar.addi v181 c1_i32_141
  let c2_i32_188 : BitVec 32 := 2#32
  let v241 : BitVec 32 := Scalar.addi v182 c2_i32_188
  let c16_i32_189 : BitVec 32 := 16#32
  let v242 : BitVec 1 := Scalar.cmpi .slt v241 c16_i32_189
  let v243 : BitVec 32 := Scalar.extui v242
  let c0_i32_190 : BitVec 32 := 0#32
  let v244 : BitVec 1 := Scalar.cmpi .ne v243 c0_i32_190
  v244

def k0_off44 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_140 : BitVec 32 := 1#32
  let c3_i32_139 : BitVec 32 := 3#32
  let c0_i32_72 : BitVec 32 := 0#32
  let c1_i32_73 : BitVec 32 := 1#32
  let arg26 : BitVec 32 := Scf.iv c0_i32_72 c1_i32_73 k0_t2
  let v180 : BitVec 32 := Scalar.muli c3_i32_139 arg26
  let v181 : BitVec 32 := Scalar.addi c1_i32_140 v180
  let c1_i32_141 : BitVec 32 := 1#32
  let v182 : BitVec 32 := Scalar.addi v181 c1_i32_141
  let c2_i32_243 : BitVec 32 := 2#32
  let v310 : BitVec 32 := Scalar.addi v182 c2_i32_243
  let c8_i32_244 : BitVec 32 := 8#32
  let v311 : BitVec 32 := Scalar.muli v310 c8_i32_244
  let v312 : BitVec 32 := Scalar.addi v2 v311
  let c0_i32_245 : BitVec 32 := 0#32
  ![v312.toNat, 0]
def k0_off45 (i : grid0.Coords) (k0_t2 : Fin k0_t2_loop.trips) : Fin 3 → Nat :=
  let c0_i32_247 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_140 : BitVec 32 := 1#32
  let c3_i32_139 : BitVec 32 := 3#32
  let c0_i32_72 : BitVec 32 := 0#32
  let c1_i32_73 : BitVec 32 := 1#32
  let arg26 : BitVec 32 := Scf.iv c0_i32_72 c1_i32_73 k0_t2
  let v180 : BitVec 32 := Scalar.muli c3_i32_139 arg26
  let v181 : BitVec 32 := Scalar.addi c1_i32_140 v180
  let c1_i32_141 : BitVec 32 := 1#32
  let v182 : BitVec 32 := Scalar.addi v181 c1_i32_141
  let c2_i32_243 : BitVec 32 := 2#32
  let v310 : BitVec 32 := Scalar.addi v182 c2_i32_243
  let c8_i32_244 : BitVec 32 := 8#32
  let v311 : BitVec 32 := Scalar.muli v310 c8_i32_244
  let v312 : BitVec 32 := Scalar.addi v2 v311
  let c0_i32_248 : BitVec 32 := 0#32
  ![0, v312.toNat, 0]
def k0_off46 (i : grid0.Coords) (k0_t2 : Fin k0_t2_loop.trips) : Fin 3 → Nat :=
  let c1_i32_250 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_140 : BitVec 32 := 1#32
  let c3_i32_139 : BitVec 32 := 3#32
  let c0_i32_72 : BitVec 32 := 0#32
  let c1_i32_73 : BitVec 32 := 1#32
  let arg26 : BitVec 32 := Scf.iv c0_i32_72 c1_i32_73 k0_t2
  let v180 : BitVec 32 := Scalar.muli c3_i32_139 arg26
  let v181 : BitVec 32 := Scalar.addi c1_i32_140 v180
  let c1_i32_141 : BitVec 32 := 1#32
  let v182 : BitVec 32 := Scalar.addi v181 c1_i32_141
  let c2_i32_243 : BitVec 32 := 2#32
  let v310 : BitVec 32 := Scalar.addi v182 c2_i32_243
  let c8_i32_244 : BitVec 32 := 8#32
  let v311 : BitVec 32 := Scalar.muli v310 c8_i32_244
  let v312 : BitVec 32 := Scalar.addi v2 v311
  let c0_i32_251 : BitVec 32 := 0#32
  ![1, v312.toNat, 0]
def k0_off47 (i : grid0.Coords) (k0_t2 : Fin k0_t2_loop.trips) : Fin 3 → Nat :=
  let c2_i32_253 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_140 : BitVec 32 := 1#32
  let c3_i32_139 : BitVec 32 := 3#32
  let c0_i32_72 : BitVec 32 := 0#32
  let c1_i32_73 : BitVec 32 := 1#32
  let arg26 : BitVec 32 := Scf.iv c0_i32_72 c1_i32_73 k0_t2
  let v180 : BitVec 32 := Scalar.muli c3_i32_139 arg26
  let v181 : BitVec 32 := Scalar.addi c1_i32_140 v180
  let c1_i32_141 : BitVec 32 := 1#32
  let v182 : BitVec 32 := Scalar.addi v181 c1_i32_141
  let c2_i32_243 : BitVec 32 := 2#32
  let v310 : BitVec 32 := Scalar.addi v182 c2_i32_243
  let c8_i32_244 : BitVec 32 := 8#32
  let v311 : BitVec 32 := Scalar.muli v310 c8_i32_244
  let v312 : BitVec 32 := Scalar.addi v2 v311
  let c0_i32_254 : BitVec 32 := 0#32
  ![2, v312.toNat, 0]
def k0_off48 (i : grid0.Coords) (k0_t2 : Fin k0_t2_loop.trips) : Fin 3 → Nat :=
  let c3_i32_256 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_140 : BitVec 32 := 1#32
  let c3_i32_139 : BitVec 32 := 3#32
  let c0_i32_72 : BitVec 32 := 0#32
  let c1_i32_73 : BitVec 32 := 1#32
  let arg26 : BitVec 32 := Scf.iv c0_i32_72 c1_i32_73 k0_t2
  let v180 : BitVec 32 := Scalar.muli c3_i32_139 arg26
  let v181 : BitVec 32 := Scalar.addi c1_i32_140 v180
  let c1_i32_141 : BitVec 32 := 1#32
  let v182 : BitVec 32 := Scalar.addi v181 c1_i32_141
  let c2_i32_243 : BitVec 32 := 2#32
  let v310 : BitVec 32 := Scalar.addi v182 c2_i32_243
  let c8_i32_244 : BitVec 32 := 8#32
  let v311 : BitVec 32 := Scalar.muli v310 c8_i32_244
  let v312 : BitVec 32 := Scalar.addi v2 v311
  let c0_i32_257 : BitVec 32 := 0#32
  ![3, v312.toNat, 0]
@[reducible] def k0_t5_loop : Scf.Loop 32 :=
  let c0_i32_209 : BitVec 32 := 0#32
  let c64_i32_210 : BitVec 32 := 64#32
  let v268 : BitVec 32 := Scalar.addi c0_i32_209 c64_i32_210
  let c1_i32_211 : BitVec 32 := 1#32
  ⟨c0_i32_209, v268, c1_i32_211⟩
def k0_off49 (k0_t5 : Fin k0_t5_loop.trips) : Fin 2 → Nat :=
  let c0_i32_245 : BitVec 32 := 0#32
  let v312 : Index := Scalar.indexCast c0_i32_245
  let c0_i32_244 : BitVec 32 := 0#32
  let c0_i32_209 : BitVec 32 := 0#32
  let c1_i32_211 : BitVec 32 := 1#32
  let arg27 : BitVec 32 := Scf.iv c0_i32_209 c1_i32_211 k0_t5
  let c16_i32_243 : BitVec 32 := 16#32
  let v310 : BitVec 32 := Scalar.muli arg27 c16_i32_243
  let v311 : BitVec 32 := Scalar.addi c0_i32_244 v310
  let v313 : Index := Scalar.indexCast v311
  ![0, v313.toNat]
def k0_off50 (k0_t5 : Fin k0_t5_loop.trips) : Fin 2 → Nat :=
  let c1_i32_257 : BitVec 32 := 1#32
  let v364 : Index := Scalar.indexCast c1_i32_257
  let c0_i32_244 : BitVec 32 := 0#32
  let c0_i32_209 : BitVec 32 := 0#32
  let c1_i32_211 : BitVec 32 := 1#32
  let arg27 : BitVec 32 := Scf.iv c0_i32_209 c1_i32_211 k0_t5
  let c16_i32_243 : BitVec 32 := 16#32
  let v310 : BitVec 32 := Scalar.muli arg27 c16_i32_243
  let v311 : BitVec 32 := Scalar.addi c0_i32_244 v310
  let v365 : Index := Scalar.indexCast v311
  ![1, v365.toNat]
def k0_off51 (k0_t5 : Fin k0_t5_loop.trips) : Fin 2 → Nat :=
  let c2_i32_270 : BitVec 32 := 2#32
  let v416 : Index := Scalar.indexCast c2_i32_270
  let c0_i32_244 : BitVec 32 := 0#32
  let c0_i32_209 : BitVec 32 := 0#32
  let c1_i32_211 : BitVec 32 := 1#32
  let arg27 : BitVec 32 := Scf.iv c0_i32_209 c1_i32_211 k0_t5
  let c16_i32_243 : BitVec 32 := 16#32
  let v310 : BitVec 32 := Scalar.muli arg27 c16_i32_243
  let v311 : BitVec 32 := Scalar.addi c0_i32_244 v310
  let v417 : Index := Scalar.indexCast v311
  ![2, v417.toNat]
def k0_off52 (k0_t5 : Fin k0_t5_loop.trips) : Fin 2 → Nat :=
  let c3_i32_283 : BitVec 32 := 3#32
  let v468 : Index := Scalar.indexCast c3_i32_283
  let c0_i32_244 : BitVec 32 := 0#32
  let c0_i32_209 : BitVec 32 := 0#32
  let c1_i32_211 : BitVec 32 := 1#32
  let arg27 : BitVec 32 := Scf.iv c0_i32_209 c1_i32_211 k0_t5
  let c16_i32_243 : BitVec 32 := 16#32
  let v310 : BitVec 32 := Scalar.muli arg27 c16_i32_243
  let v311 : BitVec 32 := Scalar.addi c0_i32_244 v310
  let v469 : Index := Scalar.indexCast v311
  ![3, v469.toNat]
def k0_off53 (k0_t5 : Fin k0_t5_loop.trips) : Fin 2 → Nat :=
  let c4_i32 : BitVec 32 := 4#32
  let v520 : Index := Scalar.indexCast c4_i32
  let c0_i32_244 : BitVec 32 := 0#32
  let c0_i32_209 : BitVec 32 := 0#32
  let c1_i32_211 : BitVec 32 := 1#32
  let arg27 : BitVec 32 := Scf.iv c0_i32_209 c1_i32_211 k0_t5
  let c16_i32_243 : BitVec 32 := 16#32
  let v310 : BitVec 32 := Scalar.muli arg27 c16_i32_243
  let v311 : BitVec 32 := Scalar.addi c0_i32_244 v310
  let v521 : Index := Scalar.indexCast v311
  ![4, v521.toNat]
def k0_off54 (k0_t5 : Fin k0_t5_loop.trips) : Fin 2 → Nat :=
  let c5_i32_308 : BitVec 32 := 5#32
  let v572 : Index := Scalar.indexCast c5_i32_308
  let c0_i32_244 : BitVec 32 := 0#32
  let c0_i32_209 : BitVec 32 := 0#32
  let c1_i32_211 : BitVec 32 := 1#32
  let arg27 : BitVec 32 := Scf.iv c0_i32_209 c1_i32_211 k0_t5
  let c16_i32_243 : BitVec 32 := 16#32
  let v310 : BitVec 32 := Scalar.muli arg27 c16_i32_243
  let v311 : BitVec 32 := Scalar.addi c0_i32_244 v310
  let v573 : Index := Scalar.indexCast v311
  ![5, v573.toNat]
def k0_off55 (k0_t5 : Fin k0_t5_loop.trips) : Fin 2 → Nat :=
  let c6_i32 : BitVec 32 := 6#32
  let v624 : Index := Scalar.indexCast c6_i32
  let c0_i32_244 : BitVec 32 := 0#32
  let c0_i32_209 : BitVec 32 := 0#32
  let c1_i32_211 : BitVec 32 := 1#32
  let arg27 : BitVec 32 := Scf.iv c0_i32_209 c1_i32_211 k0_t5
  let c16_i32_243 : BitVec 32 := 16#32
  let v310 : BitVec 32 := Scalar.muli arg27 c16_i32_243
  let v311 : BitVec 32 := Scalar.addi c0_i32_244 v310
  let v625 : Index := Scalar.indexCast v311
  ![6, v625.toNat]
def k0_off56 (k0_t5 : Fin k0_t5_loop.trips) : Fin 2 → Nat :=
  let c7_i32 : BitVec 32 := 7#32
  let v676 : Index := Scalar.indexCast c7_i32
  let c0_i32_244 : BitVec 32 := 0#32
  let c0_i32_209 : BitVec 32 := 0#32
  let c1_i32_211 : BitVec 32 := 1#32
  let arg27 : BitVec 32 := Scf.iv c0_i32_209 c1_i32_211 k0_t5
  let c16_i32_243 : BitVec 32 := 16#32
  let v310 : BitVec 32 := Scalar.muli arg27 c16_i32_243
  let v311 : BitVec 32 := Scalar.addi c0_i32_244 v310
  let v677 : Index := Scalar.indexCast v311
  ![7, v677.toNat]
def k0_cond3 (k0_t2 : Fin k0_t2_loop.trips) : BitVec 1 :=
  let c1_i32_192 : BitVec 32 := 1#32
  let c3_i32_191 : BitVec 32 := 3#32
  let c0_i32_72 : BitVec 32 := 0#32
  let c1_i32_73 : BitVec 32 := 1#32
  let arg26 : BitVec 32 := Scf.iv c0_i32_72 c1_i32_73 k0_t2
  let v245 : BitVec 32 := Scalar.muli c3_i32_191 arg26
  let v246 : BitVec 32 := Scalar.addi c1_i32_192 v245
  let c2_i32_193 : BitVec 32 := 2#32
  let v247 : BitVec 32 := Scalar.addi v246 c2_i32_193
  let c2_i32_240 : BitVec 32 := 2#32
  let v306 : BitVec 32 := Scalar.addi v247 c2_i32_240
  let c16_i32_241 : BitVec 32 := 16#32
  let v307 : BitVec 1 := Scalar.cmpi .slt v306 c16_i32_241
  let v308 : BitVec 32 := Scalar.extui v307
  let c0_i32_242 : BitVec 32 := 0#32
  let v309 : BitVec 1 := Scalar.cmpi .ne v308 c0_i32_242
  v309

def k0_off57 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_192 : BitVec 32 := 1#32
  let c3_i32_191 : BitVec 32 := 3#32
  let c0_i32_72 : BitVec 32 := 0#32
  let c1_i32_73 : BitVec 32 := 1#32
  let arg26 : BitVec 32 := Scf.iv c0_i32_72 c1_i32_73 k0_t2
  let v245 : BitVec 32 := Scalar.muli c3_i32_191 arg26
  let v246 : BitVec 32 := Scalar.addi c1_i32_192 v245
  let c2_i32_193 : BitVec 32 := 2#32
  let v247 : BitVec 32 := Scalar.addi v246 c2_i32_193
  let c2_i32_243 : BitVec 32 := 2#32
  let v310 : BitVec 32 := Scalar.addi v247 c2_i32_243
  let c8_i32_244 : BitVec 32 := 8#32
  let v311 : BitVec 32 := Scalar.muli v310 c8_i32_244
  let v312 : BitVec 32 := Scalar.addi v2 v311
  let c0_i32_245 : BitVec 32 := 0#32
  ![v312.toNat, 0]
def k0_off58 (i : grid0.Coords) (k0_t2 : Fin k0_t2_loop.trips) : Fin 3 → Nat :=
  let c0_i32_247 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_192 : BitVec 32 := 1#32
  let c3_i32_191 : BitVec 32 := 3#32
  let c0_i32_72 : BitVec 32 := 0#32
  let c1_i32_73 : BitVec 32 := 1#32
  let arg26 : BitVec 32 := Scf.iv c0_i32_72 c1_i32_73 k0_t2
  let v245 : BitVec 32 := Scalar.muli c3_i32_191 arg26
  let v246 : BitVec 32 := Scalar.addi c1_i32_192 v245
  let c2_i32_193 : BitVec 32 := 2#32
  let v247 : BitVec 32 := Scalar.addi v246 c2_i32_193
  let c2_i32_243 : BitVec 32 := 2#32
  let v310 : BitVec 32 := Scalar.addi v247 c2_i32_243
  let c8_i32_244 : BitVec 32 := 8#32
  let v311 : BitVec 32 := Scalar.muli v310 c8_i32_244
  let v312 : BitVec 32 := Scalar.addi v2 v311
  let c0_i32_248 : BitVec 32 := 0#32
  ![0, v312.toNat, 0]
def k0_off59 (i : grid0.Coords) (k0_t2 : Fin k0_t2_loop.trips) : Fin 3 → Nat :=
  let c1_i32_250 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_192 : BitVec 32 := 1#32
  let c3_i32_191 : BitVec 32 := 3#32
  let c0_i32_72 : BitVec 32 := 0#32
  let c1_i32_73 : BitVec 32 := 1#32
  let arg26 : BitVec 32 := Scf.iv c0_i32_72 c1_i32_73 k0_t2
  let v245 : BitVec 32 := Scalar.muli c3_i32_191 arg26
  let v246 : BitVec 32 := Scalar.addi c1_i32_192 v245
  let c2_i32_193 : BitVec 32 := 2#32
  let v247 : BitVec 32 := Scalar.addi v246 c2_i32_193
  let c2_i32_243 : BitVec 32 := 2#32
  let v310 : BitVec 32 := Scalar.addi v247 c2_i32_243
  let c8_i32_244 : BitVec 32 := 8#32
  let v311 : BitVec 32 := Scalar.muli v310 c8_i32_244
  let v312 : BitVec 32 := Scalar.addi v2 v311
  let c0_i32_251 : BitVec 32 := 0#32
  ![1, v312.toNat, 0]
def k0_off60 (i : grid0.Coords) (k0_t2 : Fin k0_t2_loop.trips) : Fin 3 → Nat :=
  let c2_i32_253 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_192 : BitVec 32 := 1#32
  let c3_i32_191 : BitVec 32 := 3#32
  let c0_i32_72 : BitVec 32 := 0#32
  let c1_i32_73 : BitVec 32 := 1#32
  let arg26 : BitVec 32 := Scf.iv c0_i32_72 c1_i32_73 k0_t2
  let v245 : BitVec 32 := Scalar.muli c3_i32_191 arg26
  let v246 : BitVec 32 := Scalar.addi c1_i32_192 v245
  let c2_i32_193 : BitVec 32 := 2#32
  let v247 : BitVec 32 := Scalar.addi v246 c2_i32_193
  let c2_i32_243 : BitVec 32 := 2#32
  let v310 : BitVec 32 := Scalar.addi v247 c2_i32_243
  let c8_i32_244 : BitVec 32 := 8#32
  let v311 : BitVec 32 := Scalar.muli v310 c8_i32_244
  let v312 : BitVec 32 := Scalar.addi v2 v311
  let c0_i32_254 : BitVec 32 := 0#32
  ![2, v312.toNat, 0]
def k0_off61 (i : grid0.Coords) (k0_t2 : Fin k0_t2_loop.trips) : Fin 3 → Nat :=
  let c3_i32_256 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_192 : BitVec 32 := 1#32
  let c3_i32_191 : BitVec 32 := 3#32
  let c0_i32_72 : BitVec 32 := 0#32
  let c1_i32_73 : BitVec 32 := 1#32
  let arg26 : BitVec 32 := Scf.iv c0_i32_72 c1_i32_73 k0_t2
  let v245 : BitVec 32 := Scalar.muli c3_i32_191 arg26
  let v246 : BitVec 32 := Scalar.addi c1_i32_192 v245
  let c2_i32_193 : BitVec 32 := 2#32
  let v247 : BitVec 32 := Scalar.addi v246 c2_i32_193
  let c2_i32_243 : BitVec 32 := 2#32
  let v310 : BitVec 32 := Scalar.addi v247 c2_i32_243
  let c8_i32_244 : BitVec 32 := 8#32
  let v311 : BitVec 32 := Scalar.muli v310 c8_i32_244
  let v312 : BitVec 32 := Scalar.addi v2 v311
  let c0_i32_257 : BitVec 32 := 0#32
  ![3, v312.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x1024 : Shape := ⟨3, ![4, 4096, 1024]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096x1024 : Shape := ⟨3, ![1, 4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x1024, .f32⟩
  | .hbm, ⟨22, _⟩ => ⟨S4096x1024, .i1⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4x4096x1024, .f32⟩
  | .hbm, ⟨28, _⟩ => ⟨S4x4096x1024, .f32⟩
  | .hbm, ⟨29, _⟩ => ⟨S1x4096x1024, .f32⟩
  | .hbm, ⟨30, _⟩ => ⟨S4x4096x1024, .f32⟩
  | .hbm, ⟨31, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]
-- ==== Proof.Steps.lean ====
/- The kernel's repeated pieces, each written once: the arithmetic on sixteen columns of one row, one trip of the
   arithmetic loop, the five loads of a chunk, its four stores, and the waits for either. The printed body is these
   pieces in order (`body_eq` in `Body`). -/
module

public import proofs.«01_k».proof.Defs
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type} [FloatOps F]

/-- A program of the vector subcore at grid point `i`. -/
abbrev TP (F : FTy → Type) (i : grid0.Coords) (α : Type) : Type 1 :=
  Prog (TpuEff nD τ sig (Elt F) Λ₀ (.scVector ((i 0).castLE hcore0) ((i 1).castLE hsub0))) α
/-- A tile-memory block of eight rows. -/
abbrev VM : Type := Memref sig .scVector .vmem S8x1024 .f32
/-- Eight rows of an array in HBM. -/
abbrev HM : Type := Memref sig .scVector .hbm S8x1024 .f32

/-- Where a row's sixteen columns lie inside a block. -/
abbrev InB (off : Fin 2 → ℕ) : Prop := ∀ a, off a + S1x16.size a ≤ S8x1024.size a

/-- Sixteen columns at `off` of a block. -/
abbrev seg (off : Fin 2 → ℕ) (h : InB off) : Rect S8x1024 := Rect.unit (s := S8x1024) off S1x16.size h

/-- What a store of the loop writes: the loaded `a`, times 32, plus `p`. -/
abbrev pay (a : Vec F S1x16 .f32) (p : FVec F S16 .f32) : FVec F S1x16 .f32 :=
  shapeCast S1x16 (addf (mulf (shapeCast S16 a shapeCasts_S1x16_S16) (broadcast S16 (Scalar.ofBits .f32 0x42000000#32))) p) shapeCasts_S16_S1x16

/-- One batch's sixteen columns: load, (load again), store. -/
abbrev one (i : grid0.Coords) (x : VM) (off : Fin 2 → ℕ) (h : InB off) (p : FVec F S16 .f32) : TP F i PUnit := do
  let a : Vec F S1x16 .f32 ← Prog.lift (.load x (seg off h).toLoadRect (View.loadsAt_vmem h_S1x16))
  let _b : Vec F S1x16 .f32 ← Prog.lift (.load x (seg off h).toLoadRect (View.loadsAt_vmem h_S1x16))
  Prog.lift (.store x (seg off h) (pay a p) Finset.univ (View.stores_vmem_bits_univ h_S1x16 rfl) (.inl rfl))

/-- A set of five tile blocks (the table's, then the four batches') with the semaphores of its loads and its stores. -/
structure BufSet where
  buf : Fin 5 → VM
  whole : ∀ t, (buf t).IsWhole
  rd : DmaSems sig S_
  wr : DmaSems sig S_

/-- Blocks of HBM that copies may read and write. -/
structure Blocks (n : ℕ) where
  at_ : Fin n → HM
  exact_ : ∀ t, (at_ t).view.WordExact

/-- One row's sixteen columns, in all four batches. -/
abbrev rowStep (i : grid0.Coords) (A : BufSet) (off : Fin 2 → ℕ) (h : InB off) : TP F i PUnit := do
  let p : Vec F S1x16 .f32 ← Prog.lift (.load (A.buf 0) (seg off h).toLoadRect (View.loadsAt_vmem h_S1x16))
  one i (A.buf 1) off h (shapeCast S16 p shapeCasts_S1x16_S16)
  one i (A.buf 2) off h (shapeCast S16 p shapeCasts_S1x16_S16)
  one i (A.buf 3) off h (shapeCast S16 p shapeCasts_S1x16_S16)
  one i (A.buf 4) off h (shapeCast S16 p shapeCasts_S1x16_S16)

/-- One trip of the arithmetic loop: eight rows of sixteen columns. -/
abbrev trip (i : grid0.Coords) (A : BufSet) (o0 o1 o2 o3 o4 o5 o6 o7 : Fin 2 → ℕ)
    (h0 : InB o0) (h1 : InB o1) (h2 : InB o2) (h3 : InB o3) (h4 : InB o4) (h5 : InB o5) (h6 : InB o6) (h7 : InB o7) : TP F i PUnit := do
  rowStep i A o0 h0
  rowStep i A o1 h1
  rowStep i A o2 h2
  rowStep i A o3 h3
  rowStep i A o4 h4
  rowStep i A o5 h5
  rowStep i A o6 h6
  rowStep i A o7 h7
  pure ⟨⟩

/-- Start one load. -/
abbrev load1 (i : grid0.Coords) (A : BufSet) (s : Blocks 5) (t : Fin 5) : TP F i PUnit :=
  Prog.lift (.enqueueDma (s.at_ t) (.here (A.buf t)) (.dma A.rd.sem) (s.exact_ t) (A.whole t).wordExact ⟨Or.inl rfl, trivial⟩)
/-- Wait for one load. -/
abbrev waitLoad1 (i : grid0.Coords) (A : BufSet) (s : Blocks 5) (t : Fin 5) : TP F i PUnit :=
  Prog.lift (.waitDma2 A.rd.sem (s.at_ t) (A.buf t) (s.exact_ t) (A.whole t).wordExact)
/-- Start one store. -/
abbrev store1 (i : grid0.Coords) (A : BufSet) (s : Blocks 4) (t : Fin 4) : TP F i PUnit :=
  Prog.lift (.enqueueDma (A.buf t.succ) (.here (s.at_ t)) (.dma A.wr.sem) (A.whole t.succ).wordExact (s.exact_ t) ⟨Or.inl rfl, trivial⟩)
/-- Wait for one store. -/
abbrev waitStore1 (i : grid0.Coords) (A : BufSet) (s : Blocks 4) (t : Fin 4) : TP F i PUnit :=
  Prog.lift (.waitDma2 A.wr.sem (A.buf t.succ) (s.at_ t) (A.whole t.succ).wordExact (s.exact_ t))

/-- Start a chunk's five loads. -/
abbrev loads (i : grid0.Coords) (A : BufSet) (s : Blocks 5) : TP F i PUnit := do
  load1 i A s 0; load1 i A s 1; load1 i A s 2; load1 i A s 3; load1 i A s 4
/-- Wait for a chunk's five loads. -/
abbrev waitLoads (i : grid0.Coords) (A : BufSet) (s : Blocks 5) : TP F i PUnit := do
  waitLoad1 i A s 0; waitLoad1 i A s 1; waitLoad1 i A s 2; waitLoad1 i A s 3; waitLoad1 i A s 4
/-- Start a chunk's four stores. -/
abbrev stores (i : grid0.Coords) (A : BufSet) (s : Blocks 4) : TP F i PUnit := do
  store1 i A s 0; store1 i A s 1; store1 i A s 2; store1 i A s 3
/-- Wait for a chunk's four stores. -/
abbrev waitStores (i : grid0.Coords) (A : BufSet) (s : Blocks 4) : TP F i PUnit := do
  waitStore1 i A s 0; waitStore1 i A s 1; waitStore1 i A s 2; waitStore1 i A s 3

/-- The arithmetic loop over a set of buffers. -/
def compute (i : grid0.Coords) (l : Scf.Loop 32) (hl : l.OK) (A : BufSet) (o0 o1 o2 o3 o4 o5 o6 o7 : Fin l.trips → Fin 2 → ℕ)
    (h0 : ∀ t, InB (o0 t)) (h1 : ∀ t, InB (o1 t)) (h2 : ∀ t, InB (o2 t)) (h3 : ∀ t, InB (o3 t))
    (h4 : ∀ t, InB (o4 t)) (h5 : ∀ t, InB (o5 t)) (h6 : ∀ t, InB (o6 t)) (h7 : ∀ t, InB (o7 t)) : TP F i PUnit :=
  Scf.Loop.for l hl ⟨⟩ fun t _ => trip i A (o0 t) (o1 t) (o2 t) (o3 t) (o4 t) (o5 t) (o6 t) (o7 t)
    (h0 t) (h1 t) (h2 t) (h3 t) (h4 t) (h5 t) (h6 t) (h7 t)

/-- A batch array, whole. -/
abbrev XM : Type := Memref sig .scVector .hbm S4x4096x1024 .f32
/-- The table, whole. -/
abbrev PM : Type := Memref sig .scVector .hbm S4096x1024 .f32
/-- Eight rows of the table lie inside it. -/
abbrev TabIn (off : Fin 2 → ℕ) : Prop := ∀ k, off k + S8x1024.size k ≤ S4096x1024.size k
/-- Eight rows of one batch lie inside the array. -/
abbrev BlkIn (off : Fin 3 → ℕ) : Prop := ∀ k, off k + S1x8x1024.size k ≤ S4x4096x1024.size k

/-- Eight rows of the table, starting where `off` says. -/
abbrev tab (a : PM) (off : Fin 2 → ℕ) (h : TabIn off) : HM :=
  a.slice (Rect.unit (s := S4096x1024) off S8x1024.size h) (fun _ => rfl)
/-- Eight rows of one batch of a batch array, starting where `off` says. -/
abbrev blk (a : XM) (off : Fin 3 → ℕ) (h : BlkIn off) : HM :=
  (a.slice (Rect.unit (s := S4x4096x1024) off S1x8x1024.size h) (fun _ => rfl)).squeeze S8x1024 squeezes_S1x8x1024_S8x1024

/-- Copies of whole words may use eight rows of the table. -/
theorem tab_wordExact (a : PM) (off : Fin 2 → ℕ) (h : TabIn off) : (tab a off h).view.WordExact :=
  View.wordExact_bits rfl
/-- Copies of whole words may use eight rows of a batch. -/
theorem blk_wordExact (a : XM) (off : Fin 3 → ℕ) (h : BlkIn off) : (blk a off h).view.WordExact :=
  (View.wordExact_bits rfl).reshape _ _

/-- What a chunk's loads read: eight rows of the table and of each batch. -/
abbrev ins (x : XM) (p : PM) (o : Fin 2 → ℕ) (o0 o1 o2 o3 : Fin 3 → ℕ)
    (h : TabIn o) (h0 : BlkIn o0) (h1 : BlkIn o1) (h2 : BlkIn o2) (h3 : BlkIn o3) : Blocks 5 where
  at_ := ![tab p o h, blk x o0 h0, blk x o1 h1, blk x o2 h2, blk x o3 h3]
  exact_ := Fin.cons (tab_wordExact _ _ _) (Fin.cons (blk_wordExact _ _ _) (Fin.cons (blk_wordExact _ _ _)
    (Fin.cons (blk_wordExact _ _ _) (Fin.cons (blk_wordExact _ _ _) (fun t => t.elim0)))))
/-- What a chunk's stores write: eight rows of each batch. -/
abbrev outs (y : XM) (o0 o1 o2 o3 : Fin 3 → ℕ) (h0 : BlkIn o0) (h1 : BlkIn o1) (h2 : BlkIn o2) (h3 : BlkIn o3) : Blocks 4 where
  at_ := ![blk y o0 h0, blk y o1 h1, blk y o2 h2, blk y o3 h3]
  exact_ := Fin.cons (blk_wordExact _ _ _) (Fin.cons (blk_wordExact _ _ _)
    (Fin.cons (blk_wordExact _ _ _) (Fin.cons (blk_wordExact _ _ _) (fun t => t.elim0))))

/-- Slot 0 of a group: chunk `3 t + 1`. -/
abbrev slot0 (i : grid0.Coords) (x : XM) (p : PM) (y : XM) (A B C : BufSet) (t : Fin k0_t2_loop.trips) : TP F i PUnit := do
  waitLoads i B (ins x p (k0_off14 i t 0#32) (k0_off15 i t 0#32) (k0_off16 i t 0#32) (k0_off17 i t 0#32) (k0_off18 i t 0#32)
    (k0_off14_inb i t 0) (k0_off15_inb i t 0) (k0_off16_inb i t 0) (k0_off17_inb i t 0) (k0_off18_inb i t 0))
  compute i k0_t3_loop k0_t3_ok B k0_off19 k0_off20 k0_off21 k0_off22 k0_off23 k0_off24 k0_off25 k0_off26
    k0_off19_inb k0_off20_inb k0_off21_inb k0_off22_inb k0_off23_inb k0_off24_inb k0_off25_inb k0_off26_inb
  stores i B (outs y (k0_off15 i t 0#32) (k0_off16 i t 0#32) (k0_off17 i t 0#32) (k0_off18 i t 0#32)
    (k0_off15_inb i t 0) (k0_off16_inb i t 0) (k0_off17_inb i t 0) (k0_off18_inb i t 0))
  waitStores i A (outs y (k0_off27 i t 0#32) (k0_off28 i t 0#32) (k0_off29 i t 0#32) (k0_off30 i t 0#32)
    (k0_off27_inb i t 0) (k0_off28_inb i t 0) (k0_off29_inb i t 0) (k0_off30_inb i t 0))
  if h : k0_cond1 t = 1#1 then do
    loads i A (ins x p (k0_off31 i t) (k0_off32 i t) (k0_off33 i t) (k0_off34 i t) (k0_off35 i t)
      (k0_off31_inb i t h) (k0_off32_inb i t h) (k0_off33_inb i t h) (k0_off34_inb i t h) (k0_off35_inb i t h))
    pure ⟨⟩
  else do
    pure ⟨⟩

/-- Slot 1 of a group: chunk `3 t + 2`. -/
abbrev slot1 (i : grid0.Coords) (x : XM) (p : PM) (y : XM) (A B C : BufSet) (t : Fin k0_t2_loop.trips) : TP F i PUnit := do
  waitLoads i C (ins x p (k0_off14 i t 1#32) (k0_off15 i t 1#32) (k0_off16 i t 1#32) (k0_off17 i t 1#32) (k0_off18 i t 1#32)
    (k0_off14_inb i t 1) (k0_off15_inb i t 1) (k0_off16_inb i t 1) (k0_off17_inb i t 1) (k0_off18_inb i t 1))
  compute i k0_t4_loop k0_t4_ok C k0_off36 k0_off37 k0_off38 k0_off39 k0_off40 k0_off41 k0_off42 k0_off43
    k0_off36_inb k0_off37_inb k0_off38_inb k0_off39_inb k0_off40_inb k0_off41_inb k0_off42_inb k0_off43_inb
  stores i C (outs y (k0_off15 i t 1#32) (k0_off16 i t 1#32) (k0_off17 i t 1#32) (k0_off18 i t 1#32)
    (k0_off15_inb i t 1) (k0_off16_inb i t 1) (k0_off17_inb i t 1) (k0_off18_inb i t 1))
  waitStores i B (outs y (k0_off27 i t 1#32) (k0_off28 i t 1#32) (k0_off29 i t 1#32) (k0_off30 i t 1#32)
    (k0_off27_inb i t 1) (k0_off28_inb i t 1) (k0_off29_inb i t 1) (k0_off30_inb i t 1))
  if h : k0_cond2 t = 1#1 then do
    loads i B (ins x p (k0_off44 i t) (k0_off45 i t) (k0_off46 i t) (k0_off47 i t) (k0_off48 i t)
      (k0_off44_inb i t h) (k0_off45_inb i t h) (k0_off46_inb i t h) (k0_off47_inb i t h) (k0_off48_inb i t h))
    pure ⟨⟩
  else do
    pure ⟨⟩

/-- Slot 2 of a group: chunk `3 t + 3`. -/
abbrev slot2 (i : grid0.Coords) (x : XM) (p : PM) (y : XM) (A B C : BufSet) (t : Fin k0_t2_loop.trips) : TP F i PUnit := do
  waitLoads i A (ins x p (k0_off14 i t 2#32) (k0_off15 i t 2#32) (k0_off16 i t 2#32) (k0_off17 i t 2#32) (k0_off18 i t 2#32)
    (k0_off14_inb i t 2) (k0_off15_inb i t 2) (k0_off16_inb i t 2) (k0_off17_inb i t 2) (k0_off18_inb i t 2))
  compute i k0_t5_loop k0_t5_ok A k0_off49 k0_off50 k0_off51 k0_off52 k0_off53 k0_off54 k0_off55 k0_off56
    k0_off49_inb k0_off50_inb k0_off51_inb k0_off52_inb k0_off53_inb k0_off54_inb k0_off55_inb k0_off56_inb
  stores i A (outs y (k0_off15 i t 2#32) (k0_off16 i t 2#32) (k0_off17 i t 2#32) (k0_off18 i t 2#32)
    (k0_off15_inb i t 2) (k0_off16_inb i t 2) (k0_off17_inb i t 2) (k0_off18_inb i t 2))
  waitStores i C (outs y (k0_off27 i t 2#32) (k0_off28 i t 2#32) (k0_off29 i t 2#32) (k0_off30 i t 2#32)
    (k0_off27_inb i t 2) (k0_off28_inb i t 2) (k0_off29_inb i t 2) (k0_off30_inb i t 2))
  if h : k0_cond3 t = 1#1 then do
    loads i C (ins x p (k0_off57 i t) (k0_off58 i t) (k0_off59 i t) (k0_off60 i t) (k0_off61 i t)
      (k0_off57_inb i t h) (k0_off58_inb i t h) (k0_off59_inb i t h) (k0_off60_inb i t h) (k0_off61_inb i t h))
    pure ⟨⟩
  else do
    pure ⟨⟩

/-- The kernel's body, in its pieces. -/
abbrev body (i : grid0.Coords) (x : XM) (p : PM) (y : XM) (A B C : BufSet) : TP F i PUnit := do
  loads i A (ins x p (k0_off1 i 0#32) (k0_off2 i 0#32) (k0_off3 i 0#32) (k0_off4 i 0#32) (k0_off5 i 0#32)
    (k0_off1_inb i 0) (k0_off2_inb i 0) (k0_off3_inb i 0) (k0_off4_inb i 0) (k0_off5_inb i 0))
  loads i B (ins x p (k0_off1 i 8#32) (k0_off2 i 8#32) (k0_off3 i 8#32) (k0_off4 i 8#32) (k0_off5 i 8#32)
    (k0_off1_inb i 1) (k0_off2_inb i 1) (k0_off3_inb i 1) (k0_off4_inb i 1) (k0_off5_inb i 1))
  waitLoads i A (ins x p (k0_off1 i 0#32) (k0_off2 i 0#32) (k0_off3 i 0#32) (k0_off4 i 0#32) (k0_off5 i 0#32)
    (k0_off1_inb i 0) (k0_off2_inb i 0) (k0_off3_inb i 0) (k0_off4_inb i 0) (k0_off5_inb i 0))
  compute i k0_t1_loop k0_t1_ok A k0_off6 k0_off7 k0_off8 k0_off9 k0_off10 k0_off11 k0_off12 k0_off13
    k0_off6_inb k0_off7_inb k0_off8_inb k0_off9_inb k0_off10_inb k0_off11_inb k0_off12_inb k0_off13_inb
  stores i A (outs y (k0_off2 i 0#32) (k0_off3 i 0#32) (k0_off4 i 0#32) (k0_off5 i 0#32)
    (k0_off2_inb i 0) (k0_off3_inb i 0) (k0_off4_inb i 0) (k0_off5_inb i 0))
  loads i C (ins x p (k0_off1 i 16#32) (k0_off2 i 16#32) (k0_off3 i 16#32) (k0_off4 i 16#32) (k0_off5 i 16#32)
    (k0_off1_inb i 2) (k0_off2_inb i 2) (k0_off3_inb i 2) (k0_off4_inb i 2) (k0_off5_inb i 2))
  Scf.Loop.for k0_t2_loop k0_t2_ok ⟨⟩ fun t _ => do
    slot0 i x p y A B C t
    slot1 i x p y A B C t
    slot2 i x p y A B C t
  waitStores i A (outs y (k0_off2 i 120#32) (k0_off3 i 120#32) (k0_off4 i 120#32) (k0_off5 i 120#32)
    (k0_off2_inb i 3) (k0_off3_inb i 3) (k0_off4_inb i 3) (k0_off5_inb i 3))
  pure ⟨⟩

/-- Five named blocks as a set. -/
abbrev mkSet (p b0 b1 b2 b3 : VM) (hp : p.IsWhole) (h0 : b0.IsWhole) (h1 : b1.IsWhole) (h2 : b2.IsWhole) (h3 : b3.IsWhole)
    (rd wr : DmaSems sig S_) : BufSet where
  buf := ![p, b0, b1, b2, b3]
  whole := Fin.cons hp (Fin.cons h0 (Fin.cons h1 (Fin.cons h2 (Fin.cons h3 (fun t => t.elim0)))))
  rd := rd
  wr := wr

end Cert.Proof

end
-- ==== Proof.Body.lean ====
/- The printed body, shown to be the pieces of `Steps` in order: loops and guards are met one by one, and everything
   between them is the same step on both sides. -/
module

public import proofs.«01_k».proof.Defs
public import proofs.«01_k».proof.Proof.Steps
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type} [FloatOps F]

/-- Two programs agree when their first steps and what follows agree. -/
theorem bind_eq {E : Type → Type} {α β : Type} {a b : Prog E α} {f g : α → Prog E β} (h : a = b) (hf : ∀ v, f v = g v) :
    (a >>= f) = (b >>= g) := by
  rw [h, funext hf]

/-- Two guarded programs agree when they agree under the guard. -/
theorem guard_eq {α : Type 1} {c : Prop} {d : Decidable c} {a a' : c → α} {b : ¬c → α} (h : ∀ k, a k = a' k) : dite c a b = dite c a' b := by
  rw [funext h]

/-- A guarded program whose two branches both end in `r`, against the guarded program that leaves `r` to what follows. -/
theorem guard_bind {E : Type → Type} {α β : Type} {c : Prop} {d : Decidable c} {a : c → Prog E α} {r : Prog E α} {k : α → Prog E β}
    {a' : c → Prog E PUnit} {k' : PUnit → Prog E β} (h1 : ∀ h, a h = (a' h >>= fun _ => r)) (h2 : (r >>= k) = k' ⟨⟩) :
    ((dite c a fun _ => r) >>= k) = ((dite c a' fun _ => pure ⟨⟩) >>= k') := by
  by_cases h : c
  · simp only [h, dite_true, h1, bind_assoc, h2]
  · simp only [h, dite_false, h2, pure_bind]

set_option maxRecDepth 100000 in
set_option maxHeartbeats 1000000 in
/-- The printed body is the pieces in order. -/
theorem body_eq (i : grid0.Coords) (x : XM) (p : PM) (y : XM) (hx : x.IsWhole) (hp : p.IsWhole) (hy : y.IsWhole)
    (p0 a0 a1 a2 a3 p1 b0 b1 b2 b3 p2 c0 c1 c2 c3 : VM)
    (hp0 : p0.IsWhole) (ha0 : a0.IsWhole) (ha1 : a1.IsWhole) (ha2 : a2.IsWhole) (ha3 : a3.IsWhole)
    (hp1 : p1.IsWhole) (hb0 : b0.IsWhole) (hb1 : b1.IsWhole) (hb2 : b2.IsWhole) (hb3 : b3.IsWhole)
    (hp2 : p2.IsWhole) (hc0 : c0.IsWhole) (hc1 : c1.IsWhole) (hc2 : c2.IsWhole) (hc3 : c3.IsWhole)
    (r0 r1 r2 w0 w1 w2 : DmaSems sig S_) :
    cc0_k (F := F) i x hx p hp y hy p0 hp0 a0 ha0 a1 ha1 a2 ha2 a3 ha3 p1 hp1 b0 hb0 b1 hb1 b2 hb2 b3 hb3
      p2 hp2 c0 hc0 c1 hc1 c2 hc2 c3 hc3 r0 r1 r2 w0 w1 w2
    = body i x p y (mkSet p0 a0 a1 a2 a3 hp0 ha0 ha1 ha2 ha3 r0 w0) (mkSet p1 b0 b1 b2 b3 hp1 hb0 hb1 hb2 hb3 r1 w1)
        (mkSet p2 c0 c1 c2 c3 hp2 hc0 hc1 hc2 hc3 r2 w2) := by
  delta cc0_k k0_part43 k0_part44 k0_part45 k0_part46 k0_part37 k0_part38 k0_part39 k0_part40 k0_part41 k0_part42
  simp only [body, slot0, slot1, slot2, loads, stores, waitLoads, waitStores, bind_assoc, pure_bind]
  iterate 15 (refine bind_eq ?_ fun _ => ?_; · rfl)
  refine bind_eq ?_ fun _ => ?_
  · delta compute; rfl
  iterate 9 (refine bind_eq ?_ fun _ => ?_; · rfl)
  refine bind_eq (congrArg (Scf.Loop.for k0_t2_loop k0_t2_ok PUnit.unit) (funext fun t => funext fun _ => ?_)) fun _ => ?_
  · iterate 5 (refine bind_eq ?_ fun _ => ?_; · rfl)
    refine bind_eq ?_ fun _ => ?_
    · delta compute; rfl
    iterate 8 (refine bind_eq ?_ fun _ => ?_; · rfl)
    refine guard_bind (fun h => ?_) ?_
    · simp only [bind_assoc, pure_bind]
      iterate 5 (refine bind_eq ?_ fun _ => ?_; · rfl)
      rfl
    simp only [bind_assoc, pure_bind]
    iterate 5 (refine bind_eq ?_ fun _ => ?_; · rfl)
    refine bind_eq ?_ fun _ => ?_
    · delta compute; rfl
    iterate 8 (refine bind_eq ?_ fun _ => ?_; · rfl)
    refine guard_bind (fun h => ?_) ?_
    · simp only [bind_assoc, pure_bind]
      iterate 5 (refine bind_eq ?_ fun _ => ?_; · rfl)
      rfl
    simp only [bind_assoc, pure_bind]
    iterate 5 (refine bind_eq ?_ fun _ => ?_; · rfl)
    refine bind_eq ?_ fun _ => ?_
    · delta compute; rfl
    iterate 8 (refine bind_eq ?_ fun _ => ?_; · rfl)
    refine guard_eq fun h => ?_
    iterate 5 (refine bind_eq ?_ fun _ => ?_; · rfl)
    rfl
  · iterate 4 (refine bind_eq ?_ fun _ => ?_; · rfl)
    rfl

end Cert.Proof

end
-- ==== Proof.Row.lean ====
/- What a memory view holds, as one assertion (`Holds`), and the arithmetic loop's step under it: sixteen columns of one row
   of the four batches' blocks, each times 32 plus the table's block. The loop takes 512 such steps in a fixed order;
   `mix n` is a block after `n` of them. -/
module

public import proofs.«01_k».proof.Proof.Steps
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The proof's ghost state: the handshakes' rounds and the copies' counters. -/
abbrev UH : Type := URounds (GSem nD τ sig) ℕ
/-- All of the ghost state: the rounds and the counters. -/
abbrev UU : Type := UH × Counters

local notation "𝕄" => MT nD τ sig (HIx 1) (Elt F) ℕ UU ℕ

/-- The vector subcore at grid point `i` of device `d`. -/
abbrev th (d : Dev nD) (i : grid0.Coords) : Thread nD τ := V d ((i 0).castLE hcore0) ((i 1).castLE hsub0)

/-- The subcore runs `p` and ends in `Q`. -/
abbrev WP (d : Dev nD) (i : grid0.Coords) {α : Type} (p : TP F i α) (Q : α → sProp 𝕄) : sProp 𝕄 :=
  wp frame (wpE (defs₀ (F := F)) Variants.none (th d i) none) Set.univ p Q

/-- Eight rows of values. -/
abbrev Blk (F : FTy → Type) : Type := S8x1024.Idx → Elt F .f32

/-- The view `m` of the subcore's memory holds `X`, and is the subcore's to write. -/
def Holds (d : Dev nD) (i : grid0.Coords) {sp : Space} (m : Memref sig .scVector sp S8x1024 .f32) (X : Blk F) : sProp 𝕄 :=
  iprop(∃ f, ⌜m.view.read (Elt F) f = X⌝ ∗ (m.view.loc (th d i) ↦[m.view.set]{fullShare} f))

variable (d : Dev nD) (i : grid0.Coords)

/-- A load reads the block at its rectangle. -/
theorem wp_loadH (m : VM) (X : Blk F) (r : Rect S8x1024) {hl : m.view.LoadsAt r.toLoadRect} {α : Type}
    {k : (r.shape.Idx → Elt F .f32) → TP F i α} {Q : α → sProp 𝕄} :
    Holds d i m X ⊢ iprop((Holds d i m X -∗ WP d i (k fun q => X (r.emb q)) Q) -∗ WP d i (.op (.load m r.toLoadRect hl) k) Q) := by
  unfold Holds
  iintro ⟨%f, %hf, Hm⟩ Hk
  iapply (wp_load_rect Variants.none (th d i) none Set.univ (m := m) (r := r) (hl := hl) (k := k) (m.view.set_slice_subset r)) $$ [Hm]
  · iexact Hm
  iintro Hm
  have e : (m.access r).read (Elt F) f = fun q => X (r.emb q) := by
    funext q; rw [← hf]; rfl
  rw [e]
  iapply Hk
  iexists f
  isplitr
  · ipureintro; exact hf
  iexact Hm

/-- A store over a rectangle leaves any block that has the stored values there and the old ones elsewhere. -/
theorem wp_storeH (m : VM) (X X' : Blk F) (r : Rect S8x1024) {w : r.shape.Idx → Elt F .f32}
    {hx : (m.access r).Stores Finset.univ} {hm : (Finset.univ : Finset r.shape.Idx) = Finset.univ ∨ ∀ a, r.stride a = 1} {α : Type}
    {k : PUnit → TP F i α} {Q : α → sProp 𝕄} (hin : ∀ q, X' (r.emb q) = w q) (hout : ∀ y, (∀ q, r.emb q ≠ y) → X' y = X y) :
    Holds d i m X ⊢ iprop((Holds d i m X' -∗ WP d i (k ⟨⟩) Q) -∗ WP d i (.op (.store m r w Finset.univ hx hm) k) Q) := by
  unfold Holds
  iintro ⟨%f, %hf, Hm⟩ Hk
  iapply (wp_store Variants.none (th d i) none Set.univ (m := m) (r := r) (w := w) (hx := hx) (hm := hm) (k := k)
    (m.view.set_slice_subset r)) $$ [Hm]
  · iexact Hm
  iintro Hm
  iapply Hk
  iexists _
  isplitr
  · ipureintro
    funext y
    by_cases h : ∃ q, r.emb q = y
    · obtain ⟨q, rfl⟩ := h
      exact (View.read_slice_write_emb r f w (Finset.mem_univ q)).trans (hin q).symm
    · have h' : ∀ q, r.emb q ≠ y := fun q e => h ⟨q, e⟩
      refine (View.read_slice_write_of_not_mem r f w Finset.univ ?_).trans ((congrFun hf y).trans (hout y h').symm)
      intro hy
      obtain ⟨q, -, e⟩ := Finset.mem_map.mp hy
      exact h' q e
  iexact Hm

/-- The factor 32. -/
abbrev c32 : F .f32 := Scalar.ofBits .f32 0x42000000#32

/-- One element of the result: the batch's, times 32, plus the table's. -/
abbrev fma (x p : F .f32) : F .f32 := FloatOps.addf (FloatOps.mulf x c32) p

/-- The order in which the loop meets an element: sixteen columns at a time, and in them row by row. -/
abbrev key (y : S8x1024.Idx) : ℕ := 8 * ((y 1).val / 16) + (y 0).val

/-- The block after `n` steps. -/
def mix (n : ℕ) (X P : Blk F) : Blk F := fun y => if key y < n then fma (X y) (P y) else X y

omit [FloatOps F] in
/-- What the loop stores, element by element. -/
theorem pay_eq [FloatOps F] (a p : Vec F S1x16 .f32) :
    pay a (shapeCast S16 p shapeCasts_S1x16_S16) = fun q => fma (a q) (p q) := by
  funext q
  show FloatOps.addf (FloatOps.mulf (a (Shape.reshapeEquiv _ (Shape.reshapeEquiv _ q))) c32) (p (Shape.reshapeEquiv _ (Shape.reshapeEquiv _ q))) = _
  rw [Shape.reshapeEquiv_reshapeEquiv, Shape.reshapeEquiv_self]

/-- Step `n` meets the sixteen elements of key `n`. -/
theorem key_seg {n : ℕ} {off : Fin 2 → ℕ} (h : InB off) (ho : off = ![n % 8, 16 * (n / 8)]) (q : S1x16.Idx) : key ((seg off h).emb q) = n := by
  have h0 : ((seg off h).emb q 0).val = n % 8 := by
    show off 0 + 1 * (q 0).val = n % 8
    have : (q 0).val < 1 := (q 0).isLt
    subst ho; show n % 8 + 1 * (q 0).val = n % 8; omega
  have h1 : ((seg off h).emb q 1).val = 16 * (n / 8) + (q 1).val := by
    show off 1 + 1 * (q 1).val = _
    subst ho; show 16 * (n / 8) + 1 * (q 1).val = _; omega
  have : (q 1).val < 16 := (q 1).isLt
  unfold key
  rw [h0, h1]; omega

/-- Step `n` meets every element of key `n`. -/
theorem seg_of_key {n : ℕ} {off : Fin 2 → ℕ} (h : InB off) (ho : off = ![n % 8, 16 * (n / 8)]) (y : S8x1024.Idx) (hy : key y = n) :
    ∃ q, (seg off h).emb q = y := by
  have y0 : (y 0).val < 8 := (y 0).isLt
  refine ⟨fun a => match a with
    | ⟨0, _⟩ => ⟨0, Nat.one_pos⟩
    | ⟨1, _⟩ => ⟨(y 1).val % 16, Nat.mod_lt _ (by decide)⟩, ?_⟩
  subst ho
  unfold key at hy
  funext a
  apply Fin.ext
  match a with
  | ⟨0, _⟩ => show n % 8 + 1 * 0 = (y 0).val; omega
  | ⟨1, _⟩ => show 16 * (n / 8) + 1 * ((y 1).val % 16) = (y 1).val; omega

/-- One batch's sixteen columns: step `n` of its block. -/
theorem wp_one (m : VM) (X P : Blk F) (n : ℕ) (off : Fin 2 → ℕ) (h : InB off) (ho : off = ![n % 8, 16 * (n / 8)]) {α : Type}
    {k : PUnit → TP F i α} {Q : α → sProp 𝕄} :
    Holds d i m (mix n X P)
      ⊢ iprop((Holds d i m (mix (n + 1) X P) -∗ WP d i (k ⟨⟩) Q)
          -∗ WP d i (one i m off h (shapeCast S16 (fun q => P ((seg off h).emb q)) shapeCasts_S1x16_S16) >>= k) Q) := by
  iintro Hm Hk
  simp only [one, Prog.bind_lift, Prog.bind_op]
  iapply (wp_loadH d i m (mix n X P) (seg off h)) $$ Hm
  iintro Hm
  iapply (wp_loadH d i m (mix n X P) (seg off h)) $$ Hm
  iintro Hm
  iapply (wp_storeH d i m (mix n X P) (mix (n + 1) X P) (seg off h) ?_ ?_) $$ Hm
  · intro q
    rw [pay_eq]
    show mix (n + 1) X P _ = fma (mix n X P _) _
    unfold mix
    rw [if_pos (by rw [key_seg h ho q]; omega), if_neg (by rw [key_seg h ho q]; omega)]
  · intro y hy
    have : key y ≠ n := fun e => by obtain ⟨q, hq⟩ := seg_of_key h ho y e; exact hy q hq
    unfold mix
    by_cases h1 : key y < n
    · rw [if_pos h1, if_pos (by omega)]
    · rw [if_neg h1, if_neg (by omega)]
  iexact Hk

/-- A set's blocks in the arithmetic loop after `n` steps: the table's as loaded, the batches' met so far. -/
def Comp (A : BufSet) (P : Blk F) (X : Fin 4 → Blk F) (n : ℕ) : sProp 𝕄 :=
  iprop(Holds d i (A.buf 0) P ∗ Holds d i (A.buf 1) (mix n (X 0) P) ∗ Holds d i (A.buf 2) (mix n (X 1) P)
    ∗ Holds d i (A.buf 3) (mix n (X 2) P) ∗ Holds d i (A.buf 4) (mix n (X 3) P))

/-- One row's sixteen columns: step `n` of all four blocks. -/
theorem wp_rowStep (A : BufSet) (P : Blk F) (X : Fin 4 → Blk F) (n : ℕ) (off : Fin 2 → ℕ) (h : InB off) (ho : off = ![n % 8, 16 * (n / 8)])
    {α : Type} {k : PUnit → TP F i α} {Q : α → sProp 𝕄} :
    Comp d i A P X n ⊢ iprop((Comp d i A P X (n + 1) -∗ WP d i (k ⟨⟩) Q) -∗ WP d i (rowStep i A off h >>= k) Q) := by
  unfold Comp
  iintro ⟨H0, H1, H2, H3, H4⟩ Hk
  simp only [rowStep, bind_assoc, Prog.bind_lift]
  iapply (wp_loadH d i (A.buf 0) P (seg off h)) $$ H0
  iintro H0
  iapply (wp_one d i (A.buf 1) (X 0) P n off h ho) $$ H1
  iintro H1
  iapply (wp_one d i (A.buf 2) (X 1) P n off h ho) $$ H2
  iintro H2
  iapply (wp_one d i (A.buf 3) (X 2) P n off h ho) $$ H3
  iintro H3
  iapply (wp_one d i (A.buf 4) (X 3) P n off h ho) $$ H4
  iintro H4
  iapply Hk
  isplitl [H0]; · iexact H0
  isplitl [H1]; · iexact H1
  isplitl [H2]; · iexact H2
  isplitl [H3]; · iexact H3
  iexact H4

/-- One trip: steps `8 t … 8 t + 7`. -/
theorem wp_trip (A : BufSet) (P : Blk F) (X : Fin 4 → Blk F) (t : ℕ) (o0 o1 o2 o3 o4 o5 o6 o7 : Fin 2 → ℕ)
    (h0 : InB o0) (h1 : InB o1) (h2 : InB o2) (h3 : InB o3) (h4 : InB o4) (h5 : InB o5) (h6 : InB o6) (h7 : InB o7)
    (e0 : o0 = ![0, 16 * t]) (e1 : o1 = ![1, 16 * t]) (e2 : o2 = ![2, 16 * t]) (e3 : o3 = ![3, 16 * t])
    (e4 : o4 = ![4, 16 * t]) (e5 : o5 = ![5, 16 * t]) (e6 : o6 = ![6, 16 * t]) (e7 : o7 = ![7, 16 * t]) :
    Comp d i A P X (8 * t) ⊢ WP d i (trip i A o0 o1 o2 o3 o4 o5 o6 o7 h0 h1 h2 h3 h4 h5 h6 h7) (fun _ => Comp d i A P X (8 * (t + 1))) := by
  have hat : ∀ k : ℕ, k < 8 → (![k, 16 * t] : Fin 2 → ℕ) = ![(8 * t + k) % 8, 16 * ((8 * t + k) / 8)] := fun k hk => by
    rw [show (8 * t + k) % 8 = k by omega, show (8 * t + k) / 8 = t by omega]
  iintro H
  unfold trip
  iapply (wp_rowStep d i A P X (8 * t) o0 h0 (e0.trans (hat 0 (by decide)))) $$ H
  iintro H
  iapply (wp_rowStep d i A P X (8 * t + 1) o1 h1 (e1.trans (hat 1 (by decide)))) $$ H
  iintro H
  iapply (wp_rowStep d i A P X (8 * t + 2) o2 h2 (e2.trans (hat 2 (by decide)))) $$ H
  iintro H
  iapply (wp_rowStep d i A P X (8 * t + 3) o3 h3 (e3.trans (hat 3 (by decide)))) $$ H
  iintro H
  iapply (wp_rowStep d i A P X (8 * t + 4) o4 h4 (e4.trans (hat 4 (by decide)))) $$ H
  iintro H
  iapply (wp_rowStep d i A P X (8 * t + 5) o5 h5 (e5.trans (hat 5 (by decide)))) $$ H
  iintro H
  iapply (wp_rowStep d i A P X (8 * t + 6) o6 h6 (e6.trans (hat 6 (by decide)))) $$ H
  iintro H
  iapply (wp_rowStep d i A P X (8 * t + 7) o7 h7 (e7.trans (hat 7 (by decide)))) $$ H
  iintro H
  unfold WP
  rw [wp_pure]
  imodintro
  iexact H

/-- A block of the result. -/
abbrev done (X P : Blk F) : Blk F := fun y => fma (X y) (P y)

/-- After no step a block is what it was. -/
theorem mix_zero (X P : Blk F) : mix 0 X P = X := by
  funext y; unfold mix; rw [if_neg (by omega)]
/-- After 512 steps it is done. -/
theorem mix_full (X P : Blk F) : mix 512 X P = done X P := by
  funext y
  have h0 : (y 0).val < 8 := (y 0).isLt
  have h1 : (y 1).val < 1024 := (y 1).isLt
  unfold mix; rw [if_pos (by unfold key; omega)]

/-- The whole arithmetic loop. -/
theorem wp_compute (l : Scf.Loop 32) (hl : l.OK) (A : BufSet) (P : Blk F) (X : Fin 4 → Blk F) (o0 o1 o2 o3 o4 o5 o6 o7 : Fin l.trips → Fin 2 → ℕ)
    (h0 : ∀ t, InB (o0 t)) (h1 : ∀ t, InB (o1 t)) (h2 : ∀ t, InB (o2 t)) (h3 : ∀ t, InB (o3 t))
    (h4 : ∀ t, InB (o4 t)) (h5 : ∀ t, InB (o5 t)) (h6 : ∀ t, InB (o6 t)) (h7 : ∀ t, InB (o7 t))
    (hn : l.trips = 64)
    (e0 : ∀ t, o0 t = ![0, 16 * t.val]) (e1 : ∀ t, o1 t = ![1, 16 * t.val]) (e2 : ∀ t, o2 t = ![2, 16 * t.val])
    (e3 : ∀ t, o3 t = ![3, 16 * t.val]) (e4 : ∀ t, o4 t = ![4, 16 * t.val]) (e5 : ∀ t, o5 t = ![5, 16 * t.val])
    (e6 : ∀ t, o6 t = ![6, 16 * t.val]) (e7 : ∀ t, o7 t = ![7, 16 * t.val])
    {α : Type} {k : PUnit → TP F i α} {Q : α → sProp 𝕄} :
    iprop(Holds d i (A.buf 0) P ∗ Holds d i (A.buf 1) (X 0) ∗ Holds d i (A.buf 2) (X 1) ∗ Holds d i (A.buf 3) (X 2) ∗ Holds d i (A.buf 4) (X 3))
      ⊢ iprop((iprop(Holds d i (A.buf 0) P ∗ Holds d i (A.buf 1) (done (X 0) P) ∗ Holds d i (A.buf 2) (done (X 1) P)
              ∗ Holds d i (A.buf 3) (done (X 2) P) ∗ Holds d i (A.buf 4) (done (X 3) P)) -∗ WP d i (k ⟨⟩) Q)
          -∗ WP d i (compute i l hl A o0 o1 o2 o3 o4 o5 o6 o7 h0 h1 h2 h3 h4 h5 h6 h7 >>= k) Q) := by
  have z : iprop(Holds d i (A.buf 0) P ∗ Holds d i (A.buf 1) (X 0) ∗ Holds d i (A.buf 2) (X 1) ∗ Holds d i (A.buf 3) (X 2) ∗ Holds d i (A.buf 4) (X 3))
      = Comp d i A P X (8 * 0) := by
    unfold Comp; simp only [Nat.mul_zero, mix_zero]
  have f : Comp d i A P X (8 * l.trips)
      = iprop(Holds d i (A.buf 0) P ∗ Holds d i (A.buf 1) (done (X 0) P) ∗ Holds d i (A.buf 2) (done (X 1) P)
              ∗ Holds d i (A.buf 3) (done (X 2) P) ∗ Holds d i (A.buf 4) (done (X 3) P)) := by
    rw [hn]; unfold Comp; simp only [show 8 * 64 = 512 from rfl, mix_full]
  rw [z, ← f]
  unfold compute
  iintro H Hk
  iapply (Scf.wp_for_bind frame (wpE (defs₀ (F := F)) Variants.none (th d i) none) Set.univ l.lb l.ub l.st hl ⟨⟩ _
    (fun t _ => Comp d i A P X (8 * t))
    (fun t _ => wp_trip d i A P X t.val _ _ _ _ _ _ _ _ (h0 t) (h1 t) (h2 t) (h3 t) (h4 t) (h5 t) (h6 t) (h7 t)
      (e0 t) (e1 t) (e2 t) (e3 t) (e4 t) (e5 t) (e6 t) (e7 t))) $$ H
  iintro %acc H
  iapply Hk
  iexact H

end Cert.Proof

end
-- ==== Proof.Copies.lean ====
/- A chunk's copies, as batches on one semaphore each: five loads into a set of buffers, and four stores out of it. A batch
   in flight holds both ends of every copy; the last wait hands them all back. -/
module

public import proofs.«01_k».proof.Proof.Row
public import Idealize.ShloMosaic.Lib.Batch

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)

/-- What a view holds may be kept in a counter's store. -/
instance holds_storable {sp : Space} (m : Memref sig .scVector sp S8x1024 .f32) (X : Blk F) :
    Storable (upEmb : UEmb _ 𝕄) (Holds d i m X) := by
  unfold Holds; infer_instance

/-- Five assertions, one per load. -/
abbrev five (Φ : Fin 5 → sProp 𝕄) : sProp 𝕄 := iprop(Φ 0 ∗ Φ 1 ∗ Φ 2 ∗ Φ 3 ∗ Φ 4)
/-- Four assertions, one per store. -/
abbrev four (Φ : Fin 4 → sProp 𝕄) : sProp 𝕄 := iprop(Φ 0 ∗ Φ 1 ∗ Φ 2 ∗ Φ 3)

/-- A product over five, written out. -/
theorem five_eq (Φ : Fin 5 → sProp 𝕄) : bigSep Finset.univ Φ = five Φ := by
  rw [Transfers.bigSep_pending_zero, Transfers.bigSep_pending_step Φ 0 (by decide), Transfers.bigSep_pending_step Φ 1 (by decide),
    Transfers.bigSep_pending_step Φ 2 (by decide), Transfers.bigSep_pending_step Φ 3 (by decide), Transfers.bigSep_pending_last Φ 4 (by decide) rfl]
  rfl
/-- A product over four, written out. -/
theorem four_eq (Φ : Fin 4 → sProp 𝕄) : bigSep Finset.univ Φ = four Φ := by
  rw [Transfers.bigSep_pending_zero, Transfers.bigSep_pending_step Φ 0 (by decide), Transfers.bigSep_pending_step Φ 1 (by decide),
    Transfers.bigSep_pending_step Φ 2 (by decide), Transfers.bigSep_pending_last Φ 3 (by decide) rfl]
  rfl

/-- A batch of `n` copies on `sm`, `k` of them started and `u` units of the counter waited for. -/
abbrev Fly {n : ℕ} (sm : DmaSem sig) (N : ℕ) (D : Fin n → sProp 𝕄) (k u : ℕ) : sProp 𝕄 :=
  Transfers.Batch (countersEmb (U := UU)) (th d i) (.dma sm) (none : HIx 1) N D k u

/-- One copy of eight rows: started, it holds both ends until the batch is waited for. -/
theorem wp_copy {sp sp' : Space} {n : ℕ} (src : Memref sig .scVector sp S8x1024 .f32) (dst : Memref sig .scVector sp' S8x1024 .f32)
    (sm : DmaSem sig) {hs : src.view.WordExact} {hd : dst.view.WordExact} {ht : DmaTarget.Typed sp (.dma sm) (DmaTarget.here (nD := nD) (τ := τ) (p := (th d i).2) dst)}
    (N : ℕ) (hN : dst.view.dmaCredit = N) (D : Fin n → sProp 𝕄) (j : ℕ) (hj : j < n) (X Y : Blk F)
    (hD : iprop(Holds d i src X ∗ Holds d i dst X) ⊢ D ⟨j, hj⟩)
    {α : Type} {k : PUnit → TP F i α} {Q : α → sProp 𝕄} :
    iprop(Holds d i src X ∗ Holds d i dst Y ∗ Fly d i sm N D j 0)
      ⊢ iprop((Fly d i sm N D (j + 1) 0 -∗ WP d i (k ⟨⟩) Q)
          -∗ WP d i (.op (.enqueueDma src (.here dst) (.dma sm) hs hd ht) k) Q) := by
  iintro ⟨Hs, Hd, HB⟩
  unfold Holds
  icases Hs with ⟨%f, %hf, Hs⟩
  icases Hd with ⟨%g, %hg, Hd⟩
  have land : iprop((dst.view.loc (th d i) ↦[dst.view.set]{fullShare} (dst.view.write (Elt F) g (ReadAs.same.apply (src.view.read (Elt F) f)) Finset.univ))
      ∗ (src.view.loc (th d i) ↦[src.view.set]{fullShare} f)) ⊢ D ⟨j, hj⟩ := by
    refine BIBase.Entails.trans ?_ hD
    unfold Holds
    iintro ⟨Hd, Hs⟩
    isplitl [Hs]
    · iexists f
      isplitr
      · ipureintro; exact hf
      iexact Hs
    iexists (dst.view.write (Elt F) g (ReadAs.same.apply (src.view.read (Elt F) f)) Finset.univ)
    isplitr
    · ipureintro; exact (View.read_write_univ g _).trans hf
    iexact Hd
  iapply (Transfers.wp_dmaBatch (countersEmb (U := UU)) Variants.none (th d i) none (none : HIx 1) N (sm := .dma sm) hN
    (Finset.Subset.refl _) hj (Nat.zero_le _) land) $$ [Hs Hd HB]
  isplitl [Hs]; · iexact Hs
  isplitl [Hd]; · iexact Hd
  iexact HB

/-- What the subcore owes, and the right to wait for its copies. -/
def Ow (O : CellTallies nD τ sig (HIx 1)) (W : Waits sig (HIx 1)) : sProp 𝕄 :=
  iprop(Transfers.MayWaits (th d i) (none : HIx 1) O ∗ ∃ W', ⌜∀ p ∈ W', p ∈ W ∨ p.2 = none⌝ ∗ owes (th d i) O W')

/-- A wait short of the batch's last. -/
theorem wp_wait {sp sp' : Space} {n : ℕ} (src : Memref sig .scVector sp S8x1024 .f32) (dst : Memref sig .scVector sp' S8x1024 .f32)
    (sm : DmaSem sig) {hs : src.view.WordExact} {hd : dst.view.WordExact}
    (N : ℕ) (hN : dst.view.dmaCredit = N) (D : Fin n → sProp 𝕄) (u : ℕ) (hu : u + N < N * n)
    (O : CellTallies nD τ sig (HIx 1)) (W : Waits sig (HIx 1))
    {α : Type} {k : PUnit → TP F i α} {Q : α → sProp 𝕄} :
    iprop(Fly d i sm N D n u ∗ Ow d i O W)
      ⊢ iprop((iprop(Fly d i sm N D n (u + N) ∗ Ow d i O W) -∗ WP d i (k ⟨⟩) Q)
          -∗ WP d i (.op (.waitDma2 sm src dst hs hd) k) Q) := by
  unfold Ow
  iintro ⟨HB, ⟨#Hmw, %W', %hW, HO⟩⟩ Hk
  iapply (Transfers.wp_waitBatchO (countersEmb (U := UU)) Variants.none (th d i) none (none : HIx 1) hN hu (O := O)) $$ [HB HO]
  · isplitl [HB]; · iexact HB
    isplitl [HO]; · iexact HO
    iapply (Transfers.MayWaits.elim (SemLoc.dma sm)) $$ Hmw
  iintro ⟨HB, HO⟩
  iapply Hk
  isplitl [HB]; · iexact HB
  isplitr; · iexact Hmw
  iexists (insert (SemLoc.dma sm, (none : HIx 1)) W')
  isplitr
  · ipureintro
    intro p hp
    rcases Finset.mem_insert.mp hp with h | h
    · exact Or.inr (by rw [h])
    · exact hW p h
  iexact HO

/-- The batch's last wait: both ends of every copy are back. -/
theorem wp_waitLast {sp sp' : Space} {n : ℕ} (src : Memref sig .scVector sp S8x1024 .f32) (dst : Memref sig .scVector sp' S8x1024 .f32)
    (sm : DmaSem sig) {hs : src.view.WordExact} {hd : dst.view.WordExact}
    (N : ℕ) (hN : dst.view.dmaCredit = N) (D : Fin n → sProp 𝕄) (u : ℕ) (hu : u + N = N * n)
    (O : CellTallies nD τ sig (HIx 1)) (W : Waits sig (HIx 1))
    {α : Type} {k : PUnit → TP F i α} {Q : α → sProp 𝕄} :
    iprop(Fly d i sm N D n u ∗ Ow d i O W)
      ⊢ iprop((iprop(bigSep Finset.univ D ∗ semVal (th d i, SemLoc.dma sm) 0 ∗ Ow d i O W) -∗ WP d i (k ⟨⟩) Q)
          -∗ WP d i (.op (.waitDma2 sm src dst hs hd) k) Q) := by
  have hN0 : 0 < N := hN ▸ dst.view.dmaCredit_pos (by decide)
  unfold Ow
  iintro ⟨HB, ⟨#Hmw, %W', %hW, HO⟩⟩ Hk
  iapply (Transfers.wp_waitBatchLastO (countersEmb (U := UU)) Variants.none (th d i) none (none : HIx 1) hN hN0 hu (O := O)) $$ [HB HO]
  · isplitl [HB]; · iexact HB
    isplitl [HO]; · iexact HO
    iapply (Transfers.MayWaits.elim (SemLoc.dma sm)) $$ Hmw
  iintro ⟨HB, Hv, HO⟩
  iapply Hk
  isplitl [HB]; · iexact HB
  isplitl [Hv]; · iexact Hv
  isplitr; · iexact Hmw
  iexists (insert (SemLoc.dma sm, (none : HIx 1)) W')
  isplitr
  · ipureintro
    intro p hp
    rcases Finset.mem_insert.mp hp with h | h
    · exact Or.inr (by rw [h])
    · exact hW p h
  iexact HO

/-- A semaphore of the subcore, at zero. -/
abbrev Zero (s : DmaSems sig S_) : sProp 𝕄 := semVal (th d i, SemLoc.dma s.sem) 0

/-- Load `t`'s two ends once it has landed. -/
abbrev LoadEnds (A : BufSet) (s : Blocks 5) (X : Fin 5 → Blk F) (t : Fin 5) : sProp 𝕄 :=
  iprop(Holds d i (s.at_ t) (X t) ∗ Holds d i (A.buf t) (X t))
/-- Store `t`'s two ends once it has landed. -/
abbrev StoreEnds (A : BufSet) (s : Blocks 4) (Z : Fin 4 → Blk F) (t : Fin 4) : sProp 𝕄 :=
  iprop(Holds d i (A.buf t.succ) (Z t) ∗ Holds d i (s.at_ t) (Z t))

/-- Five loads in flight. -/
def Loading (N : ℕ) (A : BufSet) (s : Blocks 5) (X : Fin 5 → Blk F) : sProp 𝕄 := Fly d i A.rd.sem N (LoadEnds d i A s X) 5 0
/-- Four stores in flight. -/
def Storing (N : ℕ) (A : BufSet) (s : Blocks 4) (Z : Fin 4 → Blk F) : sProp 𝕄 := Fly d i A.wr.sem N (StoreEnds d i A s Z) 4 0

/-- A chunk's five loads, started. -/
theorem wp_loads (N : ℕ) (A : BufSet) (hA : ∀ t, (A.buf t).view.dmaCredit = N) (s : Blocks 5) (X Y : Fin 5 → Blk F)
    {α : Type} {k : PUnit → TP F i α} {Q : α → sProp 𝕄} :
    iprop(five (fun t => Holds d i (s.at_ t) (X t)) ∗ five (fun t => Holds d i (A.buf t) (Y t)) ∗ Zero d i A.rd)
      ⊢ iprop((Loading d i N A s X -∗ WP d i (k ⟨⟩) Q) -∗ WP d i (loads i A s >>= k) Q) := by
  unfold Loading
  iintro ⟨⟨S0, S1, S2, S3, S4⟩, ⟨B0, B1, B2, B3, B4⟩, Hv⟩ Hk
  simp only [loads, bind_assoc, Prog.bind_lift]
  imod (Transfers.batch_alloc' (countersEmb (U := UU)) (th d i) (none : HIx 1) N (LoadEnds d i A s X) (E := Set.univ)) $$ Hv with HB
  iapply (wp_copy d i (s.at_ 0) (A.buf 0) A.rd.sem N (hA 0) (LoadEnds d i A s X) 0 (by decide) (X 0) (Y 0) .rfl) $$ [S0 B0 HB]
  · isplitl [S0]; · iexact S0
    isplitl [B0]; · iexact B0
    iexact HB
  iintro HB
  iapply (wp_copy d i (s.at_ 1) (A.buf 1) A.rd.sem N (hA 1) (LoadEnds d i A s X) 1 (by decide) (X 1) (Y 1) .rfl) $$ [S1 B1 HB]
  · isplitl [S1]; · iexact S1
    isplitl [B1]; · iexact B1
    iexact HB
  iintro HB
  iapply (wp_copy d i (s.at_ 2) (A.buf 2) A.rd.sem N (hA 2) (LoadEnds d i A s X) 2 (by decide) (X 2) (Y 2) .rfl) $$ [S2 B2 HB]
  · isplitl [S2]; · iexact S2
    isplitl [B2]; · iexact B2
    iexact HB
  iintro HB
  iapply (wp_copy d i (s.at_ 3) (A.buf 3) A.rd.sem N (hA 3) (LoadEnds d i A s X) 3 (by decide) (X 3) (Y 3) .rfl) $$ [S3 B3 HB]
  · isplitl [S3]; · iexact S3
    isplitl [B3]; · iexact B3
    iexact HB
  iintro HB
  iapply (wp_copy d i (s.at_ 4) (A.buf 4) A.rd.sem N (hA 4) (LoadEnds d i A s X) 4 (by decide) (X 4) (Y 4) .rfl) $$ [S4 B4 HB]
  · isplitl [S4]; · iexact S4
    isplitl [B4]; · iexact B4
    iexact HB
  iexact Hk

/-- A chunk's five loads, waited for. -/
theorem wp_waitLoads (N : ℕ) (A : BufSet) (hA : ∀ t, (A.buf t).view.dmaCredit = N) (s : Blocks 5) (X : Fin 5 → Blk F)
    (O : CellTallies nD τ sig (HIx 1)) (W : Waits sig (HIx 1)) {α : Type} {k : PUnit → TP F i α} {Q : α → sProp 𝕄} :
    iprop(Loading d i N A s X ∗ Ow d i O W)
      ⊢ iprop((iprop(five (fun t => Holds d i (s.at_ t) (X t)) ∗ five (fun t => Holds d i (A.buf t) (X t)) ∗ Zero d i A.rd ∗ Ow d i O W)
            -∗ WP d i (k ⟨⟩) Q)
          -∗ WP d i (waitLoads i A s >>= k) Q) := by
  have hN0 : 0 < N := hA 0 ▸ (A.buf 0).view.dmaCredit_pos (by decide)
  unfold Loading
  iintro H Hk
  simp only [waitLoads, bind_assoc, Prog.bind_lift]
  iapply (wp_wait d i (s.at_ 0) (A.buf 0) A.rd.sem N (hA 0) (LoadEnds d i A s X) 0 (by omega) O W) $$ H
  iintro H
  iapply (wp_wait d i (s.at_ 1) (A.buf 1) A.rd.sem N (hA 1) (LoadEnds d i A s X) _ (by omega) O W) $$ H
  iintro H
  iapply (wp_wait d i (s.at_ 2) (A.buf 2) A.rd.sem N (hA 2) (LoadEnds d i A s X) _ (by omega) O W) $$ H
  iintro H
  iapply (wp_wait d i (s.at_ 3) (A.buf 3) A.rd.sem N (hA 3) (LoadEnds d i A s X) _ (by omega) O W) $$ H
  iintro H
  iapply (wp_waitLast d i (s.at_ 4) (A.buf 4) A.rd.sem N (hA 4) (LoadEnds d i A s X) _ (by omega) O W) $$ H
  rw [five_eq]
  iintro ⟨⟨⟨S0, B0⟩, ⟨S1, B1⟩, ⟨S2, B2⟩, ⟨S3, B3⟩, ⟨S4, B4⟩⟩, Hv, HO⟩
  iapply Hk
  isplitl [S0 S1 S2 S3 S4]
  · isplitl [S0]; · iexact S0
    isplitl [S1]; · iexact S1
    isplitl [S2]; · iexact S2
    isplitl [S3]; · iexact S3
    iexact S4
  isplitl [B0 B1 B2 B3 B4]
  · isplitl [B0]; · iexact B0
    isplitl [B1]; · iexact B1
    isplitl [B2]; · iexact B2
    isplitl [B3]; · iexact B3
    iexact B4
  isplitl [Hv]; · iexact Hv
  iexact HO

/-- A chunk's four stores, started. -/
theorem wp_stores (N : ℕ) (A : BufSet) (s : Blocks 4) (hs : ∀ t, (s.at_ t).view.dmaCredit = N) (Z Y : Fin 4 → Blk F)
    {α : Type} {k : PUnit → TP F i α} {Q : α → sProp 𝕄} :
    iprop(four (fun t => Holds d i (A.buf t.succ) (Z t)) ∗ four (fun t => Holds d i (s.at_ t) (Y t)) ∗ Zero d i A.wr)
      ⊢ iprop((Storing d i N A s Z -∗ WP d i (k ⟨⟩) Q) -∗ WP d i (stores i A s >>= k) Q) := by
  unfold Storing
  iintro ⟨⟨S0, S1, S2, S3⟩, ⟨B0, B1, B2, B3⟩, Hv⟩ Hk
  simp only [stores, bind_assoc, Prog.bind_lift]
  imod (Transfers.batch_alloc' (countersEmb (U := UU)) (th d i) (none : HIx 1) N (StoreEnds d i A s Z) (E := Set.univ)) $$ Hv with HB
  iapply (wp_copy d i (A.buf (Fin.succ 0)) (s.at_ 0) A.wr.sem N (hs 0) (StoreEnds d i A s Z) 0 (by decide) (Z 0) (Y 0) .rfl) $$ [S0 B0 HB]
  · isplitl [S0]; · iexact S0
    isplitl [B0]; · iexact B0
    iexact HB
  iintro HB
  iapply (wp_copy d i (A.buf (Fin.succ 1)) (s.at_ 1) A.wr.sem N (hs 1) (StoreEnds d i A s Z) 1 (by decide) (Z 1) (Y 1) .rfl) $$ [S1 B1 HB]
  · isplitl [S1]; · iexact S1
    isplitl [B1]; · iexact B1
    iexact HB
  iintro HB
  iapply (wp_copy d i (A.buf (Fin.succ 2)) (s.at_ 2) A.wr.sem N (hs 2) (StoreEnds d i A s Z) 2 (by decide) (Z 2) (Y 2) .rfl) $$ [S2 B2 HB]
  · isplitl [S2]; · iexact S2
    isplitl [B2]; · iexact B2
    iexact HB
  iintro HB
  iapply (wp_copy d i (A.buf (Fin.succ 3)) (s.at_ 3) A.wr.sem N (hs 3) (StoreEnds d i A s Z) 3 (by decide) (Z 3) (Y 3) .rfl) $$ [S3 B3 HB]
  · isplitl [S3]; · iexact S3
    isplitl [B3]; · iexact B3
    iexact HB
  iexact Hk

/-- A chunk's four stores, waited for. -/
theorem wp_waitStores (N : ℕ) (A : BufSet) (s : Blocks 4) (hs : ∀ t, (s.at_ t).view.dmaCredit = N) (Z : Fin 4 → Blk F)
    (O : CellTallies nD τ sig (HIx 1)) (W : Waits sig (HIx 1)) {α : Type} {k : PUnit → TP F i α} {Q : α → sProp 𝕄} :
    iprop(Storing d i N A s Z ∗ Ow d i O W)
      ⊢ iprop((iprop(four (fun t => Holds d i (A.buf t.succ) (Z t)) ∗ four (fun t => Holds d i (s.at_ t) (Z t)) ∗ Zero d i A.wr ∗ Ow d i O W)
            -∗ WP d i (k ⟨⟩) Q)
          -∗ WP d i (waitStores i A s >>= k) Q) := by
  have hN0 : 0 < N := hs 0 ▸ (s.at_ 0).view.dmaCredit_pos (by decide)
  unfold Storing
  iintro H Hk
  simp only [waitStores, bind_assoc, Prog.bind_lift]
  iapply (wp_wait d i (A.buf (Fin.succ 0)) (s.at_ 0) A.wr.sem N (hs 0) (StoreEnds d i A s Z) 0 (by omega) O W) $$ H
  iintro H
  iapply (wp_wait d i (A.buf (Fin.succ 1)) (s.at_ 1) A.wr.sem N (hs 1) (StoreEnds d i A s Z) _ (by omega) O W) $$ H
  iintro H
  iapply (wp_wait d i (A.buf (Fin.succ 2)) (s.at_ 2) A.wr.sem N (hs 2) (StoreEnds d i A s Z) _ (by omega) O W) $$ H
  iintro H
  iapply (wp_waitLast d i (A.buf (Fin.succ 3)) (s.at_ 3) A.wr.sem N (hs 3) (StoreEnds d i A s Z) _ (by omega) O W) $$ H
  rw [four_eq]
  iintro ⟨⟨⟨S0, B0⟩, ⟨S1, B1⟩, ⟨S2, B2⟩, ⟨S3, B3⟩⟩, Hv, HO⟩
  iapply Hk
  isplitl [S0 S1 S2 S3]
  · isplitl [S0]; · iexact S0
    isplitl [S1]; · iexact S1
    isplitl [S2]; · iexact S2
    iexact S3
  isplitl [B0 B1 B2 B3]
  · isplitl [B0]; · iexact B0
    isplitl [B1]; · iexact B1
    isplitl [B2]; · iexact B2
    iexact B3
  isplitl [Hv]; · iexact Hv
  iexact HO

end Cert.Proof

end
-- ==== Proof.Tile.lean ====
/- One subcore's run. Its share of the arrays is sixteen chunks of eight rows in four batches; a chunk is loaded into one of
   three sets of buffers, scaled and added to there, and stored back from it, while the next two are being loaded and the
   one before is being stored. `St` is what the subcore has between two chunks. -/
module

public import proofs.«01_k».proof.Proof.Copies

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The first row of chunk `c` of the subcore at `i`. -/
abbrev rowOf (i : grid0.Coords) (c : Fin 16) : ℕ := 256 * (i 1).val + 128 * (i 0).val + 8 * c.val

/-- A chunk's rows lie in the table. -/
theorem rowOf_le (i : grid0.Coords) (c : Fin 16) : rowOf i c + 8 ≤ 4096 := by
  have h0 : (i 0).val < 2 := (i 0).isLt
  have h1 : (i 1).val < 16 := (i 1).isLt
  have := c.isLt
  unfold rowOf; omega

/-- A chunk's copy from the table stays inside it. -/
theorem tabIn_row (i : grid0.Coords) (c : Fin 16) : TabIn ![rowOf i c, 0] := by
  have := rowOf_le i c
  intro a
  match a with
  | ⟨0, _⟩ => show rowOf i c + 8 ≤ 4096; omega
  | ⟨1, _⟩ => show 0 + 1024 ≤ 1024; omega

/-- A chunk's copy from or to a batch stays inside the array. -/
theorem blkIn_row (i : grid0.Coords) (c : Fin 16) (b : ℕ) (hb : b < 4) : BlkIn ![b, rowOf i c, 0] := by
  have := rowOf_le i c
  intro a
  match a with
  | ⟨0, _⟩ => show b + 1 ≤ 4; omega
  | ⟨1, _⟩ => show rowOf i c + 8 ≤ 4096; omega
  | ⟨2, _⟩ => show 0 + 1024 ≤ 1024; omega

/-- What chunk `c` is loaded from. -/
abbrev inC (i : grid0.Coords) (x : XM) (p : PM) (c : Fin 16) : Blocks 5 :=
  ins x p ![rowOf i c, 0] ![0, rowOf i c, 0] ![1, rowOf i c, 0] ![2, rowOf i c, 0] ![3, rowOf i c, 0]
    (tabIn_row i c) (blkIn_row i c 0 (by decide)) (blkIn_row i c 1 (by decide)) (blkIn_row i c 2 (by decide)) (blkIn_row i c 3 (by decide))
/-- What chunk `c` is stored to. -/
abbrev outC (i : grid0.Coords) (y : XM) (c : Fin 16) : Blocks 4 :=
  outs y ![0, rowOf i c, 0] ![1, rowOf i c, 0] ![2, rowOf i c, 0] ![3, rowOf i c, 0]
    (blkIn_row i c 0 (by decide)) (blkIn_row i c 1 (by decide)) (blkIn_row i c 2 (by decide)) (blkIn_row i c 3 (by decide))

/-- Blocks at chunk `c`'s rows are chunk `c`'s. -/
theorem ins_at (i : grid0.Coords) (x : XM) (p : PM) (c : Fin 16) (n : ℕ) (hn : n = rowOf i c) {o : Fin 2 → ℕ} {o0 o1 o2 o3 : Fin 3 → ℕ}
    {h : TabIn o} {h0 : BlkIn o0} {h1 : BlkIn o1} {h2 : BlkIn o2} {h3 : BlkIn o3}
    (e : o = ![n, 0]) (e0 : o0 = ![0, n, 0]) (e1 : o1 = ![1, n, 0]) (e2 : o2 = ![2, n, 0]) (e3 : o3 = ![3, n, 0]) :
    ins x p o o0 o1 o2 o3 h h0 h1 h2 h3 = inC i x p c := by
  subst e e0 e1 e2 e3 hn; rfl
/-- The four views of a chunk of the result, from their offsets in numbers. -/
theorem outs_at (i : grid0.Coords) (y : XM) (c : Fin 16) (n : ℕ) (hn : n = rowOf i c) {o0 o1 o2 o3 : Fin 3 → ℕ}
    {h0 : BlkIn o0} {h1 : BlkIn o1} {h2 : BlkIn o2} {h3 : BlkIn o3}
    (e0 : o0 = ![0, n, 0]) (e1 : o1 = ![1, n, 0]) (e2 : o2 = ![2, n, 0]) (e3 : o3 = ![3, n, 0]) :
    outs y o0 o1 o2 o3 h0 h1 h2 h3 = outC i y c := by
  subst e0 e1 e2 e3 hn; rfl

/-- The chunks below `k`. -/
abbrev below (k : ℕ) : Finset (Fin 16) := Finset.univ.filter fun c => c.val < k

/-- The chunks below `k + 1` are those below `k` and chunk `k`. -/
theorem below_put (Φ : Fin 16 → sProp 𝕄) (k : ℕ) (hk : k < 16) : bigSep (below (k + 1)) Φ = iprop(Φ ⟨k, hk⟩ ∗ bigSep (below k) Φ) := by
  have e : below (k + 1) = insert (⟨k, hk⟩ : Fin 16) (below k) := by
    ext c; simp only [below, Finset.mem_filter, Finset.mem_univ, true_and, Finset.mem_insert, Fin.ext_iff]; omega
  rw [e, bigSep_insert (by simp [below])]
  rfl
/-- The chunks below 16 are all. -/
theorem below_all (Φ : Fin 16 → sProp 𝕄) : bigSep (below 16) Φ = bigSep Finset.univ Φ := by
  have e : below 16 = Finset.univ := by
    ext c; simp only [below, Finset.mem_filter, Finset.mem_univ, true_and, iff_true]; exact c.isLt
  rw [e]

variable (d : Dev nD) (i : grid0.Coords) (x : XM) (p : PM) (y : XM)
  (Pt : Fin 16 → Blk F) (Xs : Fin 16 → Fin 4 → Blk F) (N M : ℕ) (O : CellTallies nD τ sig (HIx 1)) (W : Waits sig (HIx 1))

/-- What chunk `c`'s loads read: the table's block, then the batches'. -/
abbrev rd5 (c : Fin 16) : Fin 5 → Blk F := Fin.cons (Pt c) (Xs c)
/-- What chunk `c`'s stores write. -/
abbrev wr4 (c : Fin 16) : Fin 4 → Blk F := fun t => done (Xs c t) (Pt c)

/-- Chunk `c`'s inputs. -/
def In (c : Fin 16) : sProp 𝕄 := five fun t => Holds d i ((inC i x p c).at_ t) (rd5 Pt Xs c t)
/-- Chunk `c`'s place in the result, before. -/
def Raw (c : Fin 16) : sProp 𝕄 := iprop(∃ V : Fin 4 → Blk F, four fun t => Holds d i ((outC i y c).at_ t) (V t))
/-- Chunk `c`'s place in the result, after. -/
def Fini (c : Fin 16) : sProp 𝕄 := four fun t => Holds d i ((outC i y c).at_ t) (wr4 Pt Xs c t)

/-- A set with nothing in flight. -/
def Idle (A : BufSet) : sProp 𝕄 :=
  iprop((∃ Y : Fin 5 → Blk F, five fun t => Holds d i (A.buf t) (Y t)) ∗ Zero d i A.rd ∗ Zero d i A.wr)
/-- A set that chunk `c` is being loaded into. -/
def Fill (A : BufSet) (c : Fin 16) : sProp 𝕄 := iprop(Loading d i N A (inC i x p c) (rd5 Pt Xs c) ∗ Zero d i A.wr)
/-- A set that chunk `c` is being stored from. -/
def Drain (A : BufSet) (c : Fin 16) : sProp 𝕄 :=
  iprop(Storing d i M A (outC i y c) (wr4 Pt Xs c) ∗ (∃ P : Blk F, Holds d i (A.buf 0) P) ∗ Zero d i A.rd)
/-- A set that chunk `c` is being loaded into, if there is such a chunk. -/
def Fill? (A : BufSet) (c : ℕ) : sProp 𝕄 := if h : c < 16 then Fill d i x p Pt Xs N A ⟨c, h⟩ else Idle d i A
/-- The chunk of number `m`. -/
abbrev ck (m : ℕ) : Fin 16 := ⟨m % 16, Nat.mod_lt _ (by decide)⟩

/-- Between two chunks: `m`'s result is being stored from `Pv`, the next two are being loaded into `Cu` and `Nx`. -/
def St (Pv Cu Nx : BufSet) (m : ℕ) : sProp 𝕄 :=
  iprop(Drain d i y Pt Xs M Pv (ck m) ∗ Fill? d i x p Pt Xs N Cu (m + 1) ∗ Fill? d i x p Pt Xs N Nx (m + 2)
    ∗ bigSep (Transfers.pending (m + 3)) (In d i x p Pt Xs) ∗ bigSep (below (m + 1)) (In d i x p Pt Xs)
    ∗ bigSep (Transfers.pending (m + 1)) (Raw d i y) ∗ bigSep (below m) (Fini d i y Pt Xs) ∗ Ow d i O W)

/-- Start a chunk's loads into an idle set. -/
theorem wp_fill (A : BufSet) (hA : ∀ t, (A.buf t).view.dmaCredit = N) (c : Fin 16) (s : Blocks 5) (hs : s = inC i x p c)
    {α : Type} {k : PUnit → TP F i α} {Q : α → sProp 𝕄} :
    iprop(Idle d i A ∗ In d i x p Pt Xs c)
      ⊢ iprop((Fill d i x p Pt Xs N A c -∗ WP d i (k ⟨⟩) Q) -∗ WP d i (loads i A s >>= k) Q) := by
  subst hs
  unfold Idle In Fill
  iintro ⟨⟨⟨%Y, HB⟩, Hr, Hw⟩, HI⟩ Hk
  iapply (wp_loads d i N A hA (inC i x p c) (rd5 Pt Xs c) Y) $$ [HI HB Hr]
  · isplitl [HI]; · iexact HI
    isplitl [HB]; · iexact HB
    iexact Hr
  iintro HL
  iapply Hk
  isplitl [HL]; · iexact HL
  iexact Hw

/-- Wait for a chunk's loads, do its arithmetic and start its stores. -/
theorem wp_work (A : BufSet) (hA : ∀ t, (A.buf t).view.dmaCredit = N) (c : Fin 16) (sI : Blocks 5) (hI : sI = inC i x p c)
    (sO : Blocks 4) (hO : sO = outC i y c) (hM : ∀ t, ((outC i y c).at_ t).view.dmaCredit = M)
    (l : Scf.Loop 32) (hl : l.OK) (o0 o1 o2 o3 o4 o5 o6 o7 : Fin l.trips → Fin 2 → ℕ)
    (h0 : ∀ t, InB (o0 t)) (h1 : ∀ t, InB (o1 t)) (h2 : ∀ t, InB (o2 t)) (h3 : ∀ t, InB (o3 t))
    (h4 : ∀ t, InB (o4 t)) (h5 : ∀ t, InB (o5 t)) (h6 : ∀ t, InB (o6 t)) (h7 : ∀ t, InB (o7 t))
    (hn : l.trips = 64)
    (e0 : ∀ t, o0 t = ![0, 16 * t.val]) (e1 : ∀ t, o1 t = ![1, 16 * t.val]) (e2 : ∀ t, o2 t = ![2, 16 * t.val])
    (e3 : ∀ t, o3 t = ![3, 16 * t.val]) (e4 : ∀ t, o4 t = ![4, 16 * t.val]) (e5 : ∀ t, o5 t = ![5, 16 * t.val])
    (e6 : ∀ t, o6 t = ![6, 16 * t.val]) (e7 : ∀ t, o7 t = ![7, 16 * t.val])
    {α : Type} {k : PUnit → TP F i α} {Q : α → sProp 𝕄} :
    iprop(Fill d i x p Pt Xs N A c ∗ Raw d i y c ∗ Ow d i O W)
      ⊢ iprop((iprop(Drain d i y Pt Xs M A c ∗ In d i x p Pt Xs c ∗ Ow d i O W) -∗ WP d i (k ⟨⟩) Q)
          -∗ WP d i (waitLoads i A sI >>= fun _ => compute i l hl A o0 o1 o2 o3 o4 o5 o6 o7 h0 h1 h2 h3 h4 h5 h6 h7 >>= fun _ =>
              stores i A sO >>= k) Q) := by
  subst hI hO
  unfold Fill Raw Drain In
  iintro ⟨⟨HL, Hw⟩, ⟨%V, HR⟩, HO⟩ Hk
  iapply (wp_waitLoads d i N A hA (inC i x p c) (rd5 Pt Xs c) O W) $$ [HL HO]
  · isplitl [HL]; · iexact HL
    iexact HO
  iintro ⟨HI, HB, Hr, HO⟩
  iapply (wp_compute d i l hl A (Pt c) (Xs c) o0 o1 o2 o3 o4 o5 o6 o7 h0 h1 h2 h3 h4 h5 h6 h7 hn e0 e1 e2 e3 e4 e5 e6 e7) $$ [HB]
  · iexact HB
  iintro ⟨H0, HB⟩
  iapply (wp_stores d i M A (outC i y c) hM (wr4 Pt Xs c) V) $$ [HB HR Hw]
  · isplitl [HB]; · iexact HB
    isplitl [HR]; · iexact HR
    iexact Hw
  iintro HS
  iapply Hk
  isplitl [HS H0 Hr]
  · isplitl [HS]; · iexact HS
    isplitl [H0]; · iexists _; iexact H0
    iexact Hr
  isplitl [HI]; · iexact HI
  iexact HO

/-- Wait for a chunk's stores: its result is in place, and the set is idle. -/
theorem wp_drain (A : BufSet) (c : Fin 16) (s : Blocks 4) (hs : s = outC i y c) (hM : ∀ t, ((outC i y c).at_ t).view.dmaCredit = M)
    {α : Type} {k : PUnit → TP F i α} {Q : α → sProp 𝕄} :
    iprop(Drain d i y Pt Xs M A c ∗ Ow d i O W)
      ⊢ iprop((iprop(Idle d i A ∗ Fini d i y Pt Xs c ∗ Ow d i O W) -∗ WP d i (k ⟨⟩) Q) -∗ WP d i (waitStores i A s >>= k) Q) := by
  subst hs
  unfold Drain Idle Fini
  iintro ⟨⟨HS, ⟨%P, H0⟩, Hr⟩, HO⟩ Hk
  iapply (wp_waitStores d i M A (outC i y c) hM (wr4 Pt Xs c) O W) $$ [HS HO]
  · isplitl [HS]; · iexact HS
    iexact HO
  iintro ⟨HB, HR, Hw, HO⟩
  iapply Hk
  isplitl [H0 HB Hr Hw]
  · isplitl [H0 HB]
    · iexists (Fin.cons P (wr4 Pt Xs c) : Fin 5 → Blk F)
      isplitl [H0]; · iexact H0
      iexact HB
    isplitl [Hr]; · iexact Hr
    iexact Hw
  isplitl [HR]; · iexact HR
  iexact HO

/-- Refill a set with chunk `c`, under the kernel's guard, which says that there is such a chunk. -/
theorem wp_refill (A : BufSet) (hA : ∀ t, (A.buf t).view.dmaCredit = N) (g : Prop) [Decidable g] (c : ℕ) (hg : g ↔ c < 16)
    (s : g → Blocks 5) (hs : ∀ h (hc : c < 16), s h = inC i x p ⟨c, hc⟩) :
    iprop(Idle d i A ∗ bigSep (Transfers.pending c) (In d i x p Pt Xs))
      ⊢ WP d i (if h : g then (loads i A (s h) >>= fun _ => pure ⟨⟩) else pure ⟨⟩ : TP F i PUnit)
          (fun _ => iprop(Fill? d i x p Pt Xs N A c ∗ bigSep (Transfers.pending (c + 1)) (In d i x p Pt Xs))) := by
  by_cases h : g
  · have hc := hg.mp h
    rw [dif_pos h, Transfers.bigSep_pending_step (In d i x p Pt Xs) c hc]
    unfold Fill?
    rw [dif_pos hc]
    iintro ⟨HA, HI, HP⟩
    iapply (wp_fill d i x p Pt Xs N A hA ⟨c, hc⟩ (s h) (hs h hc)) $$ [HA HI]
    · isplitl [HA]; · iexact HA
      iexact HI
    iintro HF
    unfold WP
    rw [wp_pure]
    imodintro
    isplitl [HF]; · iexact HF
    iexact HP
  · have hc : ¬ c < 16 := fun hc => h (hg.mpr hc)
    have e : ∀ k, 16 ≤ k → (Transfers.pending k : Finset (Fin 16)) = ∅ := fun k hk => by
      ext c; have := c.isLt
      simp only [Transfers.pending, Finset.mem_filter, Finset.mem_univ, true_and, Finset.notMem_empty, iff_false]; omega
    rw [dif_neg h, e c (by omega), e (c + 1) (by omega)]
    unfold Fill? WP
    rw [dif_neg hc, wp_pure]
    iintro ⟨HA, HI⟩
    imodintro
    isplitl [HA]; · iexact HA
    iexact HI

/-- One chunk's turn, the steady state. -/
theorem wp_turn (Pv Cu Nx : BufSet) (hC : ∀ t, (Cu.buf t).view.dmaCredit = N) (hP : ∀ t, (Pv.buf t).view.dmaCredit = N)
    (hM : ∀ c t, ((outC i y c).at_ t).view.dmaCredit = M) (m : ℕ) (hm : m + 1 < 16)
    (sI : Blocks 5) (hI : sI = inC i x p ⟨m + 1, hm⟩) (sO : Blocks 4) (hO : sO = outC i y ⟨m + 1, hm⟩) (sP : Blocks 4) (hS : sP = outC i y (ck m))
    (l : Scf.Loop 32) (hl : l.OK) (o0 o1 o2 o3 o4 o5 o6 o7 : Fin l.trips → Fin 2 → ℕ)
    (h0 : ∀ t, InB (o0 t)) (h1 : ∀ t, InB (o1 t)) (h2 : ∀ t, InB (o2 t)) (h3 : ∀ t, InB (o3 t))
    (h4 : ∀ t, InB (o4 t)) (h5 : ∀ t, InB (o5 t)) (h6 : ∀ t, InB (o6 t)) (h7 : ∀ t, InB (o7 t))
    (hn : l.trips = 64)
    (e0 : ∀ t, o0 t = ![0, 16 * t.val]) (e1 : ∀ t, o1 t = ![1, 16 * t.val]) (e2 : ∀ t, o2 t = ![2, 16 * t.val])
    (e3 : ∀ t, o3 t = ![3, 16 * t.val]) (e4 : ∀ t, o4 t = ![4, 16 * t.val]) (e5 : ∀ t, o5 t = ![5, 16 * t.val])
    (e6 : ∀ t, o6 t = ![6, 16 * t.val]) (e7 : ∀ t, o7 t = ![7, 16 * t.val])
    (g : Prop) [Decidable g] (hg : g ↔ m + 3 < 16) (s : g → Blocks 5) (hs : ∀ h (hc : m + 3 < 16), s h = inC i x p ⟨m + 3, hc⟩) :
    St d i x p y Pt Xs N M O W Pv Cu Nx m
      ⊢ WP d i (waitLoads i Cu sI >>= fun _ => compute i l hl Cu o0 o1 o2 o3 o4 o5 o6 o7 h0 h1 h2 h3 h4 h5 h6 h7 >>= fun _ =>
          stores i Cu sO >>= fun _ => waitStores i Pv sP >>= fun _ =>
          (if h : g then (loads i Pv (s h) >>= fun _ => pure ⟨⟩) else pure ⟨⟩ : TP F i PUnit))
        (fun _ => St d i x p y Pt Xs N M O W Cu Nx Pv (m + 1)) := by
  have em : ck m = ⟨m, by omega⟩ := Fin.ext (Nat.mod_eq_of_lt (by omega))
  have em1 : ck (m + 1) = ⟨m + 1, hm⟩ := Fin.ext (Nat.mod_eq_of_lt hm)
  unfold St
  rw [em1, Transfers.bigSep_pending_step (Raw d i y) (m + 1) hm, below_put (In d i x p Pt Xs) (m + 1) hm,
    below_put (Fini d i y Pt Xs) m (by omega)]
  have f : Fill? d i x p Pt Xs N Cu (m + 1) = Fill d i x p Pt Xs N Cu ⟨m + 1, hm⟩ := dif_pos hm
  rw [em] at hS ⊢
  rw [f]
  iintro ⟨HD, HF, HN, HpI, HbI, ⟨Hr, HpR⟩, HbF, HO⟩
  iapply (wp_work d i x p y Pt Xs N M O W Cu hC ⟨m + 1, hm⟩ sI hI sO hO (hM _) l hl o0 o1 o2 o3 o4 o5 o6 o7 h0 h1 h2 h3 h4 h5 h6 h7
    hn e0 e1 e2 e3 e4 e5 e6 e7) $$ [HF Hr HO]
  · isplitl [HF]; · iexact HF
    isplitl [Hr]; · iexact Hr
    iexact HO
  iintro ⟨HC, HI, HO⟩
  iapply (wp_drain d i y Pt Xs M O W Pv ⟨m, _⟩ sP hS (hM _)) $$ [HD HO]
  · isplitl [HD]; · iexact HD
    iexact HO
  iintro ⟨HA, Hf, HO⟩
  iapply (wp_wand_r frame (wpE (defs₀ (F := F)) Variants.none (th d i) none))
  isplitl [HA HpI]
  · iapply (wp_refill d i x p Pt Xs N Pv hP g (m + 3) hg s hs)
    isplitl [HA]; · iexact HA
    iexact HpI
  iintro %_ ⟨HA, HpI⟩
  isplitl [HC]; · iexact HC
  isplitl [HN]; · iexact HN
  isplitl [HA]; · iexact HA
  isplitl [HpI]; · iexact HpI
  isplitl [HI HbI]
  · isplitl [HI]; · iexact HI
    iexact HbI
  isplitl [HpR]; · iexact HpR
  isplitl [Hf HbF]
  · isplitl [Hf]; · iexact Hf
    iexact HbF
  iexact HO

end Cert.Proof

end
-- ==== Proof.Chunks.lean ====
/- The printed loop's three slots and the whole printed body, as `Tile`'s turns: chunk 0 before the loop, chunks 1 to 15 in its
   five trips of three. -/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The guard of turn `t`'s first refill holds just where chunk `3 t + 3` exists. -/
theorem guard1 : ∀ t : Fin k0_t2_loop.trips, k0_cond1 t = 1#1 ↔ 3 * t.val + 3 < 16 := by decide +kernel
/-- The second refill's guard: chunk `3 t + 4`. -/
theorem guard2 : ∀ t : Fin k0_t2_loop.trips, k0_cond2 t = 1#1 ↔ 3 * t.val + 1 + 3 < 16 := by decide +kernel
/-- The third refill's guard: chunk `3 t + 5`. -/
theorem guard3 : ∀ t : Fin k0_t2_loop.trips, k0_cond3 t = 1#1 ↔ 3 * t.val + 2 + 3 < 16 := by decide +kernel

/-- The chunks that the straight-line part names. -/
abbrev lit (r : Fin 4) : ℕ := 8 * ![0, 1, 2, 15] r

/-- Where the unrolled chunks of batch 0 start: the subcore's first row, plus a literal. -/
theorem k0_off2_lit : ∀ (i : grid0.Coords) (r : Fin 4), k0_off2 i (k0_off2_at r) = ![0, 256 * (i 1).val + 128 * (i 0).val + lit r, 0] := by decide +kernel
/-- The same of batch 1. -/
theorem k0_off3_lit : ∀ (i : grid0.Coords) (r : Fin 4), k0_off3 i (k0_off3_at r) = ![1, 256 * (i 1).val + 128 * (i 0).val + lit r, 0] := by decide +kernel
/-- The same of batch 2. -/
theorem k0_off4_lit : ∀ (i : grid0.Coords) (r : Fin 4), k0_off4 i (k0_off4_at r) = ![2, 256 * (i 1).val + 128 * (i 0).val + lit r, 0] := by decide +kernel
/-- The same of batch 3. -/
theorem k0_off5_lit : ∀ (i : grid0.Coords) (r : Fin 4), k0_off5 i (k0_off5_at r) = ![3, 256 * (i 1).val + 128 * (i 0).val + lit r, 0] := by decide +kernel

variable (d : Dev nD) (i : grid0.Coords) (x : XM) (p : PM) (y : XM)
  (Pt : Fin 16 → Blk F) (Xs : Fin 16 → Fin 4 → Blk F) (N M : ℕ) (O : CellTallies nD τ sig (HIx 1)) (W : Waits sig (HIx 1))
  (A B C : BufSet) (hA : ∀ t, (A.buf t).view.dmaCredit = N) (hB : ∀ t, (B.buf t).view.dmaCredit = N) (hC : ∀ t, (C.buf t).view.dmaCredit = N)
  (hM : ∀ c t, ((outC i y c).at_ t).view.dmaCredit = M)

include hA hB hC hM

/-- Slot 0 of a group. -/
theorem wp_slot0 (t : Fin k0_t2_loop.trips) :
    St d i x p y Pt Xs N M O W A B C (3 * t.val) ⊢ WP d i (slot0 i x p y A B C t) (fun _ => St d i x p y Pt Xs N M O W B C A (3 * t.val + 1)) := by
  have ht : t.val < 5 := Nat.lt_of_lt_of_le t.isLt k0_t2_abs.2.1
  exact wp_turn d i x p y Pt Xs N M O W A B C hB hA hM (3 * t.val) (by omega)
    _ (ins_at i x p _ _ (by show 256 * (i 1).val + 128 * (i 0).val + 24 * t.val + 8 * 0 + 8 = 256 * (i 1).val + 128 * (i 0).val + 8 * (3 * t.val + 1); omega)
      (k0_off14_eq i t 0) (k0_off15_eq i t 0) (k0_off16_eq i t 0) (k0_off17_eq i t 0) (k0_off18_eq i t 0))
    _ (outs_at i y _ _ (by show 256 * (i 1).val + 128 * (i 0).val + 24 * t.val + 8 * 0 + 8 = 256 * (i 1).val + 128 * (i 0).val + 8 * (3 * t.val + 1); omega)
      (k0_off15_eq i t 0) (k0_off16_eq i t 0) (k0_off17_eq i t 0) (k0_off18_eq i t 0))
    _ (outs_at i y _ _ (by show 256 * (i 1).val + 128 * (i 0).val + 24 * t.val + 8 * 0 = 256 * (i 1).val + 128 * (i 0).val + 8 * ((3 * t.val) % 16); omega)
      (k0_off27_eq i t 0) (k0_off28_eq i t 0) (k0_off29_eq i t 0) (k0_off30_eq i t 0))
    k0_t3_loop k0_t3_ok _ _ _ _ _ _ _ _ k0_off19_inb k0_off20_inb k0_off21_inb k0_off22_inb k0_off23_inb k0_off24_inb k0_off25_inb k0_off26_inb
    (by decide +kernel) k0_off19_eq k0_off20_eq k0_off21_eq k0_off22_eq k0_off23_eq k0_off24_eq k0_off25_eq k0_off26_eq
    (k0_cond1 t = 1#1) (guard1 t)
    (fun h => ins x p (k0_off31 i t) (k0_off32 i t) (k0_off33 i t) (k0_off34 i t) (k0_off35 i t)
      (k0_off31_inb i t h) (k0_off32_inb i t h) (k0_off33_inb i t h) (k0_off34_inb i t h) (k0_off35_inb i t h))
    (fun h hc => ins_at i x p _ _ (by show 256 * (i 1).val + 128 * (i 0).val + 24 * t.val + 24 = 256 * (i 1).val + 128 * (i 0).val + 8 * (3 * t.val + 3); omega)
      (k0_off31_eq i t) (k0_off32_eq i t) (k0_off33_eq i t) (k0_off34_eq i t) (k0_off35_eq i t))

/-- Slot 1 of a group. -/
theorem wp_slot1 (t : Fin k0_t2_loop.trips) :
    St d i x p y Pt Xs N M O W B C A (3 * t.val + 1) ⊢ WP d i (slot1 i x p y A B C t) (fun _ => St d i x p y Pt Xs N M O W C A B (3 * t.val + 1 + 1)) := by
  have ht : t.val < 5 := Nat.lt_of_lt_of_le t.isLt k0_t2_abs.2.1
  exact wp_turn d i x p y Pt Xs N M O W B C A hC hB hM (3 * t.val + 1) (by omega)
    _ (ins_at i x p _ _ (by show 256 * (i 1).val + 128 * (i 0).val + 24 * t.val + 8 * 1 + 8 = 256 * (i 1).val + 128 * (i 0).val + 8 * (3 * t.val + 1 + 1); omega)
      (k0_off14_eq i t 1) (k0_off15_eq i t 1) (k0_off16_eq i t 1) (k0_off17_eq i t 1) (k0_off18_eq i t 1))
    _ (outs_at i y _ _ (by show 256 * (i 1).val + 128 * (i 0).val + 24 * t.val + 8 * 1 + 8 = 256 * (i 1).val + 128 * (i 0).val + 8 * (3 * t.val + 1 + 1); omega)
      (k0_off15_eq i t 1) (k0_off16_eq i t 1) (k0_off17_eq i t 1) (k0_off18_eq i t 1))
    _ (outs_at i y _ _ (by show 256 * (i 1).val + 128 * (i 0).val + 24 * t.val + 8 * 1 = 256 * (i 1).val + 128 * (i 0).val + 8 * ((3 * t.val + 1) % 16); omega)
      (k0_off27_eq i t 1) (k0_off28_eq i t 1) (k0_off29_eq i t 1) (k0_off30_eq i t 1))
    k0_t4_loop k0_t4_ok _ _ _ _ _ _ _ _ k0_off36_inb k0_off37_inb k0_off38_inb k0_off39_inb k0_off40_inb k0_off41_inb k0_off42_inb k0_off43_inb
    (by decide +kernel) k0_off36_eq k0_off37_eq k0_off38_eq k0_off39_eq k0_off40_eq k0_off41_eq k0_off42_eq k0_off43_eq
    (k0_cond2 t = 1#1) (guard2 t)
    (fun h => ins x p (k0_off44 i t) (k0_off45 i t) (k0_off46 i t) (k0_off47 i t) (k0_off48 i t)
      (k0_off44_inb i t h) (k0_off45_inb i t h) (k0_off46_inb i t h) (k0_off47_inb i t h) (k0_off48_inb i t h))
    (fun h hc => ins_at i x p _ _ (by show 256 * (i 1).val + 128 * (i 0).val + 24 * t.val + 32 = 256 * (i 1).val + 128 * (i 0).val + 8 * (3 * t.val + 1 + 3); omega)
      (k0_off44_eq i t) (k0_off45_eq i t) (k0_off46_eq i t) (k0_off47_eq i t) (k0_off48_eq i t))

/-- Slot 2 of a group. -/
theorem wp_slot2 (t : Fin k0_t2_loop.trips) :
    St d i x p y Pt Xs N M O W C A B (3 * t.val + 2) ⊢ WP d i (slot2 i x p y A B C t) (fun _ => St d i x p y Pt Xs N M O W A B C (3 * t.val + 2 + 1)) := by
  have ht : t.val < 5 := Nat.lt_of_lt_of_le t.isLt k0_t2_abs.2.1
  exact wp_turn d i x p y Pt Xs N M O W C A B hA hC hM (3 * t.val + 2) (by omega)
    _ (ins_at i x p _ _ (by show 256 * (i 1).val + 128 * (i 0).val + 24 * t.val + 8 * 2 + 8 = 256 * (i 1).val + 128 * (i 0).val + 8 * (3 * t.val + 2 + 1); omega)
      (k0_off14_eq i t 2) (k0_off15_eq i t 2) (k0_off16_eq i t 2) (k0_off17_eq i t 2) (k0_off18_eq i t 2))
    _ (outs_at i y _ _ (by show 256 * (i 1).val + 128 * (i 0).val + 24 * t.val + 8 * 2 + 8 = 256 * (i 1).val + 128 * (i 0).val + 8 * (3 * t.val + 2 + 1); omega)
      (k0_off15_eq i t 2) (k0_off16_eq i t 2) (k0_off17_eq i t 2) (k0_off18_eq i t 2))
    _ (outs_at i y _ _ (by show 256 * (i 1).val + 128 * (i 0).val + 24 * t.val + 8 * 2 = 256 * (i 1).val + 128 * (i 0).val + 8 * ((3 * t.val + 2) % 16); omega)
      (k0_off27_eq i t 2) (k0_off28_eq i t 2) (k0_off29_eq i t 2) (k0_off30_eq i t 2))
    k0_t5_loop k0_t5_ok _ _ _ _ _ _ _ _ k0_off49_inb k0_off50_inb k0_off51_inb k0_off52_inb k0_off53_inb k0_off54_inb k0_off55_inb k0_off56_inb
    (by decide +kernel) k0_off49_eq k0_off50_eq k0_off51_eq k0_off52_eq k0_off53_eq k0_off54_eq k0_off55_eq k0_off56_eq
    (k0_cond3 t = 1#1) (guard3 t)
    (fun h => ins x p (k0_off57 i t) (k0_off58 i t) (k0_off59 i t) (k0_off60 i t) (k0_off61 i t)
      (k0_off57_inb i t h) (k0_off58_inb i t h) (k0_off59_inb i t h) (k0_off60_inb i t h) (k0_off61_inb i t h))
    (fun h hc => ins_at i x p _ _ (by show 256 * (i 1).val + 128 * (i 0).val + 24 * t.val + 40 = 256 * (i 1).val + 128 * (i 0).val + 8 * (3 * t.val + 2 + 3); omega)
      (k0_off57_eq i t) (k0_off58_eq i t) (k0_off59_eq i t) (k0_off60_eq i t) (k0_off61_eq i t))

/-- One group of three chunks. -/
theorem wp_group (t : Fin k0_t2_loop.trips) :
    St d i x p y Pt Xs N M O W A B C (3 * t.val)
      ⊢ WP d i (slot0 i x p y A B C t >>= fun _ => slot1 i x p y A B C t >>= fun _ => slot2 i x p y A B C t)
        (fun _ => St d i x p y Pt Xs N M O W A B C (3 * (t.val + 1))) := by
  iintro H
  unfold WP
  rw [wp_bind]
  iapply (wp_wand_r frame (wpE (defs₀ (F := F)) Variants.none (th d i) none))
  isplitl [H]
  · iapply (wp_slot0 d i x p y Pt Xs N M O W A B C hA hB hC hM t) $$ H
  iintro %_ H
  rw [wp_bind]
  iapply (wp_wand_r frame (wpE (defs₀ (F := F)) Variants.none (th d i) none))
  isplitl [H]
  · iapply (wp_slot1 d i x p y Pt Xs N M O W A B C hA hB hC hM t) $$ H
  iintro %_ H
  iapply (wp_slot2 d i x p y Pt Xs N M O W A B C hA hB hC hM t) $$ H

/-- The whole body: the subcore's part of the result ends as the chunks' results, the rest as it was. -/
theorem wp_body :
    iprop(bigSep Finset.univ (In d i x p Pt Xs) ∗ bigSep Finset.univ (Raw d i y) ∗ Idle d i A ∗ Idle d i B ∗ Idle d i C ∗ Ow d i O W)
      ⊢ WP d i (body i x p y A B C) (fun _ => iprop(bigSep Finset.univ (In d i x p Pt Xs) ∗ bigSep Finset.univ (Fini d i y Pt Xs)
          ∗ Idle d i A ∗ Idle d i B ∗ Idle d i C ∗ Ow d i O W)) := by
  have eI : bigSep Finset.univ (In d i x p Pt Xs) = iprop(In d i x p Pt Xs ⟨0, by decide⟩ ∗ In d i x p Pt Xs ⟨1, by decide⟩
      ∗ In d i x p Pt Xs ⟨2, by decide⟩ ∗ bigSep (Transfers.pending 3) (In d i x p Pt Xs)) := by
    rw [Transfers.bigSep_pending_zero (In d i x p Pt Xs), Transfers.bigSep_pending_step (In d i x p Pt Xs) 0 (by decide),
      Transfers.bigSep_pending_step (In d i x p Pt Xs) 1 (by decide), Transfers.bigSep_pending_step (In d i x p Pt Xs) 2 (by decide)]
  have eR : bigSep Finset.univ (Raw (F := F) d i y) = iprop(Raw (F := F) d i y ⟨0, by decide⟩ ∗ bigSep (Transfers.pending 1) (Raw (F := F) d i y)) := by
    rw [Transfers.bigSep_pending_zero (Raw (F := F) d i y), Transfers.bigSep_pending_step (Raw (F := F) d i y) 0 (by decide)]
  iintro ⟨HI, HR, HA, HB, HC, HO⟩
  ihave HI := (Entails.of_eq eI) $$ HI
  ihave HR := (Entails.of_eq eR) $$ HR
  icases HI with ⟨I0, I1, I2, HpI⟩
  icases HR with ⟨R0, HpR⟩
  have s0 : ∀ (c : Fin 16) (r : Fin 3), c.val = r.val → 256 * (i 1).val + 128 * (i 0).val + 8 * r.val = rowOf i c := fun c r h => by
    unfold rowOf; omega
  have in0 := fun (c : Fin 16) (hc : c.val = 0) => ins_at i x p c _ (s0 c 0 hc) (h := k0_off1_inb i 0) (h0 := k0_off2_inb i 0) (h1 := k0_off3_inb i 0)
    (h2 := k0_off4_inb i 0) (h3 := k0_off5_inb i 0) (k0_off1_eq i 0) (k0_off2_lit i 0) (k0_off3_lit i 0) (k0_off4_lit i 0) (k0_off5_lit i 0)
  have in1 := fun (c : Fin 16) (hc : c.val = 1) => ins_at i x p c _ (s0 c 1 hc) (h := k0_off1_inb i 1) (h0 := k0_off2_inb i 1) (h1 := k0_off3_inb i 1)
    (h2 := k0_off4_inb i 1) (h3 := k0_off5_inb i 1) (k0_off1_eq i 1) (k0_off2_lit i 1) (k0_off3_lit i 1) (k0_off4_lit i 1) (k0_off5_lit i 1)
  have in2 := fun (c : Fin 16) (hc : c.val = 2) => ins_at i x p c _ (s0 c 2 hc) (h := k0_off1_inb i 2) (h0 := k0_off2_inb i 2) (h1 := k0_off3_inb i 2)
    (h2 := k0_off4_inb i 2) (h3 := k0_off5_inb i 2) (k0_off1_eq i 2) (k0_off2_lit i 2) (k0_off3_lit i 2) (k0_off4_lit i 2) (k0_off5_lit i 2)
  have out0 := fun (c : Fin 16) (hc : c.val = 0) => outs_at i y c _ (s0 c 0 hc) (h0 := k0_off2_inb i 0) (h1 := k0_off3_inb i 0)
    (h2 := k0_off4_inb i 0) (h3 := k0_off5_inb i 0) (k0_off2_lit i 0) (k0_off3_lit i 0) (k0_off4_lit i 0) (k0_off5_lit i 0)
  have out3 := outs_at i y 15 (256 * (i 1).val + 128 * (i 0).val + 8 * 15) rfl (h0 := k0_off2_inb i 3) (h1 := k0_off3_inb i 3)
    (h2 := k0_off4_inb i 3) (h3 := k0_off5_inb i 3) (k0_off2_lit i 3) (k0_off3_lit i 3) (k0_off4_lit i 3) (k0_off5_lit i 3)
  iapply (wp_fill d i x p Pt Xs N A hA ⟨0, _⟩ _ (in0 _ rfl)) $$ [HA I0]
  · isplitl [HA]; · iexact HA
    iexact I0
  iintro HA
  iapply (wp_fill d i x p Pt Xs N B hB ⟨1, _⟩ _ (in1 _ rfl)) $$ [HB I1]
  · isplitl [HB]; · iexact HB
    iexact I1
  iintro HB
  iapply (wp_work d i x p y Pt Xs N M O W A hA ⟨0, _⟩ _ (in0 _ rfl) _ (out0 _ rfl) (hM _) k0_t1_loop k0_t1_ok _ _ _ _ _ _ _ _
    k0_off6_inb k0_off7_inb k0_off8_inb k0_off9_inb k0_off10_inb k0_off11_inb k0_off12_inb k0_off13_inb (by decide +kernel)
    k0_off6_eq k0_off7_eq k0_off8_eq k0_off9_eq k0_off10_eq k0_off11_eq k0_off12_eq k0_off13_eq) $$ [HA R0 HO]
  · isplitl [HA]; · iexact HA
    isplitl [R0]; · iexact R0
    iexact HO
  iintro ⟨HA, I0, HO⟩
  iapply (wp_fill d i x p Pt Xs N C hC ⟨2, _⟩ _ (in2 _ rfl)) $$ [HC I2]
  · isplitl [HC]; · iexact HC
    iexact I2
  iintro HC
  have fin : (15 : ℕ) = 3 * k0_t2_loop.trips := by decide +kernel
  iapply (Scf.wp_for_bind frame (wpE (defs₀ (F := F)) Variants.none (th d i) none) Set.univ k0_t2_loop.lb k0_t2_loop.ub k0_t2_loop.st k0_t2_ok ⟨⟩ _
    (fun t _ => St d i x p y Pt Xs N M O W A B C (3 * t))
    (fun t _ => wp_group d i x p y Pt Xs N M O W A B C hA hB hC hM t)) $$ [HA HB HC HpI HpR I0 HO]
  · unfold St
    rw [below_put (In d i x p Pt Xs) 0 (by decide)]
    have e0 : below 0 = ∅ := by
      ext c; simp only [below, Finset.mem_filter, Finset.mem_univ, true_and, Finset.notMem_empty, iff_false]; omega
    rw [show below (3 * 0) = ∅ from e0, bigSep_empty, bigSep_empty,
      show Fill? d i x p Pt Xs N B (3 * 0 + 1) = Fill d i x p Pt Xs N B ⟨1, by decide⟩ from dif_pos (by decide),
      show Fill? d i x p Pt Xs N C (3 * 0 + 2) = Fill d i x p Pt Xs N C ⟨2, by decide⟩ from dif_pos (by decide)]
    isplitl [HA]; · iexact HA
    isplitl [HB]; · iexact HB
    isplitl [HC]; · iexact HC
    isplitl [HpI]; · iexact HpI
    isplitl [I0]
    · isplitl [I0]; · iexact I0
      iempintro
    isplitl [HpR]; · iexact HpR
    isplitr; · iempintro
    iexact HO
  iintro %acc H
  rw [show 3 * Scf.trips k0_t2_loop.lb k0_t2_loop.ub k0_t2_loop.st = 15 from fin.symm]
  unfold St
  rw [show Fill? d i x p Pt Xs N B (15 + 1) = Idle d i B from dif_neg (by decide),
    show Fill? d i x p Pt Xs N C (15 + 2) = Idle d i C from dif_neg (by decide)]
  rw [below_all (In d i x p Pt Xs), ← below_all (Fini d i y Pt Xs), below_put (Fini d i y Pt Xs) 15 (by decide)]
  icases H with ⟨HA, HB, HC, -, HI, -, HF, HO⟩
  iapply (wp_drain d i y Pt Xs M O W A 15 _ out3 (hM _)) $$ [HA HO]
  · isplitl [HA]; · iexact HA
    iexact HO
  iintro ⟨HA, Hf, HO⟩
  unfold WP
  rw [wp_pure]
  imodintro
  isplitl [HI]; · iexact HI
  isplitl [Hf HF]
  · isplitl [Hf]; · iexact Hf
    iexact HF
  isplitl [HA]; · iexact HA
  isplitl [HB]; · iexact HB
  isplitl [HC]; · iexact HC
  iexact HO

end Cert.Proof

end
-- ==== Proof.Deal.lean ====
/- The arrays dealt out. Every subcore has sixteen blocks of eight rows of the table and, of the batch arrays, the same rows of
   each of the four batches; no two blocks meet and together they are the arrays. Held whole, an array is its blocks. -/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The batch array as a subcore names it. -/
abbrev mX : XM := Memref.whole main_arg0_scv
/-- The table as a subcore names it. -/
abbrev mP : PM := Memref.whole main_arg1_scv
/-- The result as a subcore names it. -/
abbrev mY : XM := Memref.whole main_v0_scv

/-- The input's array on device `d`. -/
abbrev xLoc (d : Dev nD) : Loc nD τ sig := (SparseCore.T d).loc main_arg0
/-- The table's array. -/
abbrev pLoc (d : Dev nD) : Loc nD τ sig := (SparseCore.T d).loc main_arg1
/-- The result's array. -/
abbrev oLoc (d : Dev nD) : Loc nD τ sig := (SparseCore.T d).loc main_v0

/-- Subcore `s` of core `c`. -/
def pt (c : Fin 2) (s : Fin 16) : grid0.Coords :=
  fun | 0 => c | 1 => s | ⟨_ + 2, h⟩ => absurd h (Nat.not_lt.2 (Nat.le_add_left _ _))

/-- The table's block of chunk `c`. -/
abbrev tabC (i : grid0.Coords) (c : Fin 16) : HM := tab mP ![rowOf i c, 0] (tabIn_row i c)
/-- Batch `b`'s block of chunk `c`. -/
abbrev blkC (a : XM) (i : grid0.Coords) (c : Fin 16) (b : Fin 4) : HM := blk a ![b.val, rowOf i c, 0] (blkIn_row i c b.val b.isLt)

/-- The table's elements in chunk `c`'s block. -/
def tSet (i : grid0.Coords) (c : Fin 16) : Finset S4096x1024.Idx := (tabC i c).view.set
/-- The elements of chunk `c`'s block of batch `b`. -/
def bSet (i : grid0.Coords) (c : Fin 16) (b : Fin 4) : Finset S4x4096x1024.Idx := (blkC mX i c b).view.set

/-- Chunk `c` of the table is the eight rows from `rowOf i c` on. -/
theorem mem_tSet (i : grid0.Coords) (c : Fin 16) (y : S4096x1024.Idx) :
    y ∈ tSet i c ↔ rowOf i c ≤ (y 0).val ∧ (y 0).val < rowOf i c + 8 := by
  have e : tSet i c = (Rect.unit (s := S4096x1024) ![rowOf i c, 0] S8x1024.size (tabIn_row i c)).set := by
    show ((View.whole (main_arg1_scv : Ref sig .scVector)).slice _).set = _
    rw [View.set_slice]; exact Finset.map_refl
  rw [e, Rect.mem_set_unit]
  constructor
  · intro h; exact h 0
  · intro h a
    match a with
    | ⟨0, _⟩ => exact h
    | ⟨1, _⟩ => exact ⟨Nat.zero_le _, by have : (y 1).val < 1024 := (y 1).isLt; show (y 1).val < 0 + 1024; omega⟩

/-- Chunk `c` of batch `b` is those eight rows of that batch. -/
theorem mem_bSet (i : grid0.Coords) (c : Fin 16) (b : Fin 4) (y : S4x4096x1024.Idx) :
    y ∈ bSet i c b ↔ (y 0).val = b.val ∧ rowOf i c ≤ (y 1).val ∧ (y 1).val < rowOf i c + 8 := by
  have e : bSet i c b = (Rect.unit (s := S4x4096x1024) ![b.val, rowOf i c, 0] S1x8x1024.size (blkIn_row i c b.val b.isLt)).set := by
    show (((View.whole (main_arg0_scv : Ref sig .scVector)).slice _).reshape _ _).set = _
    rw [View.set_reshape, View.set_slice]; exact Finset.map_refl
  rw [e, Rect.mem_set_unit]
  constructor
  · intro h
    have h0 : b.val ≤ (y 0).val ∧ (y 0).val < b.val + 1 := h 0
    exact ⟨by omega, h 1⟩
  · intro h a
    match a with
    | ⟨0, _⟩ => exact (show b.val ≤ (y 0).val ∧ (y 0).val < b.val + 1 by omega)
    | ⟨1, _⟩ => exact h.2
    | ⟨2, _⟩ => exact ⟨Nat.zero_le _, by have : (y 2).val < 1024 := (y 2).isLt; show (y 2).val < 0 + 1024; omega⟩

/-- The first row of a chunk, in numbers. -/
theorem rowOf_pt (c : Fin 2) (s : Fin 16) (k : Fin 16) : rowOf (pt c s) k = 256 * s.val + 128 * c.val + 8 * k.val := rfl

/-- Who has a block: a core, a subcore and a chunk. -/
abbrev Own : Type := (Fin 2 × Fin 16) × Fin 16

/-- A row lies in one chunk's rows only. -/
theorem own_unique (j j' : Own) (r : ℕ) (h : rowOf (pt j.1.1 j.1.2) j.2 ≤ r ∧ r < rowOf (pt j.1.1 j.1.2) j.2 + 8)
    (h' : rowOf (pt j'.1.1 j'.1.2) j'.2 ≤ r ∧ r < rowOf (pt j'.1.1 j'.1.2) j'.2 + 8) : j = j' := by
  obtain ⟨⟨c, s⟩, k⟩ := j
  obtain ⟨⟨c', s'⟩, k'⟩ := j'
  simp only [rowOf_pt] at h h'
  have := c.isLt; have := c'.isLt; have := k.isLt; have := k'.isLt
  obtain rfl : s = s' := Fin.ext (by omega)
  obtain rfl : c = c' := Fin.ext (by omega)
  obtain rfl : k = k' := Fin.ext (by omega)
  rfl
/-- Every row lies in some chunk's rows. -/
theorem own_some (r : ℕ) (hr : r < 4096) : ∃ j : Own, rowOf (pt j.1.1 j.1.2) j.2 ≤ r ∧ r < rowOf (pt j.1.1 j.1.2) j.2 + 8 := by
  refine ⟨((⟨r / 128 % 2, by omega⟩, ⟨r / 256, by omega⟩), ⟨r / 8 % 16, by omega⟩), ?_⟩
  simp only [rowOf_pt]
  omega

/-- Two chunks of the table share no entry. -/
theorem tSet_disjoint : ∀ j ∈ (Finset.univ : Finset Own), ∀ j' ∈ (Finset.univ : Finset Own), j ≠ j' →
    Disjoint (tSet (pt j.1.1 j.1.2) j.2) (tSet (pt j'.1.1 j'.1.2) j'.2) := fun j _ j' _ hne =>
  Finset.disjoint_left.mpr fun y h h' => hne (own_unique j j' _ ((mem_tSet ..).mp h) ((mem_tSet ..).mp h'))
/-- The chunks are the whole table. -/
theorem tSet_cover : (Finset.univ : Finset Own).biUnion (fun j => tSet (pt j.1.1 j.1.2) j.2) = Finset.univ := by
  ext y
  simp only [Finset.mem_biUnion, Finset.mem_univ, true_and, iff_true, mem_tSet]
  exact own_some _ (y 0).isLt

/-- Two chunks of the input, or of the result, share no entry. -/
theorem bSet_disjoint : ∀ j ∈ (Finset.univ : Finset (Own × Fin 4)), ∀ j' ∈ (Finset.univ : Finset (Own × Fin 4)), j ≠ j' →
    Disjoint (bSet (pt j.1.1.1 j.1.1.2) j.1.2 j.2) (bSet (pt j'.1.1.1 j'.1.1.2) j'.1.2 j'.2) := fun j _ j' _ hne =>
  Finset.disjoint_left.mpr fun y h h' => hne <| by
    have h1 := (mem_bSet ..).mp h
    have h2 := (mem_bSet ..).mp h'
    exact Prod.ext (own_unique j.1 j'.1 _ h1.2 h2.2) (Fin.ext (h1.1.symm.trans h2.1))
/-- The chunks of the four batches are the whole array. -/
theorem bSet_cover : (Finset.univ : Finset (Own × Fin 4)).biUnion (fun j => bSet (pt j.1.1.1 j.1.1.2) j.1.2 j.2) = Finset.univ := by
  ext y
  simp only [Finset.mem_biUnion, Finset.mem_univ, true_and, iff_true, mem_bSet]
  obtain ⟨j, hj⟩ := own_some (y 1).val (y 1).isLt
  exact ⟨(j, y 0), rfl, hj⟩

/-- The table, held whole, is every subcore's blocks of it. -/
theorem p_deal (d : Dev nD) (f : Buf (Elt F) (pLoc d)) :
    (pLoc d ↦{fullShare} f : sProp 𝕄) = bigSep Finset.univ fun c : Fin 2 => bigSep Finset.univ fun s : Fin 16 => bigSep Finset.univ fun k : Fin 16 =>
      pLoc d ↦[tSet (pt c s) k]{fullShare} f := by
  have e : (pLoc d ↦{fullShare} f : sProp 𝕄) = bigSep Finset.univ fun j : Own => pLoc d ↦[tSet (pt j.1.1 j.1.2) j.2]{fullShare} f := by
    rw [← pointsTo_biUnion Finset.univ (ℓ := pLoc d) (fun j : Own => tSet (pt j.1.1 j.1.2) j.2) tSet_disjoint, tSet_cover]
  rw [e, bigSep_univ_prod, bigSep_univ_prod]
/-- The batch array, held whole, is every subcore's blocks of it. -/
theorem x_deal (d : Dev nD) (f : Buf (Elt F) (xLoc d)) :
    (xLoc d ↦{fullShare} f : sProp 𝕄) = bigSep Finset.univ fun c : Fin 2 => bigSep Finset.univ fun s : Fin 16 => bigSep Finset.univ fun k : Fin 16 =>
      bigSep Finset.univ fun b : Fin 4 => xLoc d ↦[bSet (pt c s) k b]{fullShare} f := by
  have e : (xLoc d ↦{fullShare} f : sProp 𝕄)
      = bigSep Finset.univ fun j : Own × Fin 4 => xLoc d ↦[bSet (pt j.1.1.1 j.1.1.2) j.1.2 j.2]{fullShare} f := by
    rw [← pointsTo_biUnion Finset.univ (ℓ := xLoc d) (fun j : Own × Fin 4 => bSet (pt j.1.1.1 j.1.1.2) j.1.2 j.2) bSet_disjoint, bSet_cover]
  rw [e, bigSep_univ_prod, bigSep_univ_prod, bigSep_univ_prod]
/-- The result, held whole, is every subcore's blocks of it. -/
theorem o_deal (d : Dev nD) (f : Buf (Elt F) (oLoc d)) :
    (oLoc d ↦{fullShare} f : sProp 𝕄) = bigSep Finset.univ fun c : Fin 2 => bigSep Finset.univ fun s : Fin 16 => bigSep Finset.univ fun k : Fin 16 =>
      bigSep Finset.univ fun b : Fin 4 => oLoc d ↦[bSet (pt c s) k b]{fullShare} f := by
  have e : (oLoc d ↦{fullShare} f : sProp 𝕄)
      = bigSep Finset.univ fun j : Own × Fin 4 => oLoc d ↦[bSet (pt j.1.1.1 j.1.1.2) j.1.2 j.2]{fullShare} f := by
    rw [← pointsTo_biUnion Finset.univ (ℓ := oLoc d) (fun j : Own × Fin 4 => bSet (pt j.1.1.1 j.1.1.2) j.1.2 j.2) bSet_disjoint, bSet_cover]
  rw [e, bigSep_univ_prod, bigSep_univ_prod, bigSep_univ_prod]

variable (m : (ℓ : Loc nD τ sig) → Buf (Elt F) ℓ) (d : Dev nD)

/-- The table's index an element of the result takes: its row and its column. -/
abbrev tabIx (y : S4x4096x1024.Idx) : S4096x1024.Idx :=
  fun | 0 => y 1 | 1 => y 2 | ⟨_ + 2, h⟩ => absurd h (Nat.not_lt.2 (Nat.le_add_left _ _))

/-- The result: every element of the batch array times 32, plus the table's at its row and column. -/
def G : Buf (Elt F) (oLoc d) :=
  (fun y => fma ((m (xLoc d) : S4x4096x1024.Idx → F .f32) y) ((m (pLoc d) : S4096x1024.Idx → F .f32) (tabIx y)) : S4x4096x1024.Idx → F .f32)

/-- A subcore's blocks of the arrays, the result's holding `g`. -/
def Blocks3 (i : grid0.Coords) (g : Buf (Elt F) (oLoc d)) (c : Fin 16) : sProp 𝕄 :=
  iprop((pLoc d ↦[tSet i c]{fullShare} m (pLoc d)) ∗ (bigSep Finset.univ fun b => xLoc d ↦[bSet i c b]{fullShare} m (xLoc d))
    ∗ bigSep Finset.univ fun b => oLoc d ↦[bSet i c b]{fullShare} g)
/-- All of a subcore's blocks. -/
def Share (i : grid0.Coords) (g : Buf (Elt F) (oLoc d)) : sProp 𝕄 := bigSep Finset.univ fun c => Blocks3 m d i g c

/-- A subcore's share may be handed over. -/
instance share_storable (i : grid0.Coords) (g : Buf (Elt F) (oLoc d)) : Storable (upEmb : UEmb _ 𝕄) (Share m d i g) := by
  unfold Share Blocks3; infer_instance

/-- Two leading factors change places. -/
theorem sep_left_comm (A B C : sProp 𝕄) : iprop(A ∗ B ∗ C) = iprop(B ∗ A ∗ C) := by
  have h (A B C : sProp 𝕄) : iprop(A ∗ B ∗ C) ⊢ iprop(B ∗ A ∗ C) := by
    iintro ⟨H, H', H''⟩
    isplitl [H']; · iexact H'
    isplitl [H] <;> iassumption
  exact BI.Entails.antisymm (h A B C) (h B A C)

/-- The three arrays whole are all the subcores' blocks. -/
theorem deal (g : Buf (Elt F) (oLoc d)) :
    iprop((xLoc d ↦{fullShare} m (xLoc d)) ∗ (pLoc d ↦{fullShare} m (pLoc d)) ∗ (oLoc d ↦{fullShare} g))
      = (bigSep Finset.univ fun c : Fin 2 => bigSep Finset.univ fun s : Fin 16 => Share m d (pt c s) g : sProp 𝕄) := by
  rw [p_deal, x_deal, o_deal]
  simp only [Share, Blocks3, bigSep_sep']
  exact sep_left_comm (F := F) _ _ _

/-- To hold a view with what an array has there is to hold those elements of the array. -/
theorem holds_eq (i : grid0.Coords) {sp : Space} (v : Memref sig .scVector sp S8x1024 .f32) (f : Buf (Elt F) (v.view.loc (th d i))) :
    Holds d i v (v.view.read (Elt F) f) = (v.view.loc (th d i) ↦[v.view.set]{fullShare} f : sProp 𝕄) := by
  have h1 : Holds d i v (v.view.read (Elt F) f) ⊢ (v.view.loc (th d i) ↦[v.view.set]{fullShare} f : sProp 𝕄) := by
    unfold Holds
    iintro ⟨%g, %h, H⟩
    have e : (v.view.loc (th d i) ↦[v.view.set]{fullShare} g : sProp 𝕄) = v.view.loc (th d i) ↦[v.view.set]{fullShare} f := by
      refine pointsTo_congr fun y hy => ?_
      obtain ⟨q, -, rfl⟩ := Finset.mem_map.mp hy
      have hq := congrFun h q
      rw [View.read_apply, View.read_apply] at hq
      exact (cast_inj _).mp hq
    ihave H' := (Entails.of_eq e) $$ H
    iexact H'
  have h2 : (v.view.loc (th d i) ↦[v.view.set]{fullShare} f : sProp 𝕄) ⊢ Holds d i v (v.view.read (Elt F) f) := by
    unfold Holds
    iintro H
    iexists f
    isplitr
    · ipureintro; rfl
    iexact H
  exact BI.Entails.antisymm h1 h2

/-- What chunk `c` reads of the table. -/
def Pt (i : grid0.Coords) (c : Fin 16) : Blk F := (tabC i c).view.read (Elt F) (m (pLoc d))
/-- What chunk `c` reads of the batches. -/
def Xs (i : grid0.Coords) (c : Fin 16) (b : Fin 4) : Blk F := (blkC mX i c b).view.read (Elt F) (m (xLoc d))

/-- That a table chunk's view holds the table's rows, said of the chunk's entries in the whole table. -/
theorem tabC_pts (i : grid0.Coords) (c : Fin 16) :
    Holds d i (tabC i c) (Pt m d i c) = (pLoc d ↦[tSet i c]{fullShare} m (pLoc d) : sProp 𝕄) := holds_eq d i (tabC i c) (m (pLoc d))
/-- The same of a chunk of the input. -/
theorem blkX_pts (i : grid0.Coords) (c : Fin 16) (b : Fin 4) :
    Holds d i (blkC mX i c b) (Xs m d i c b) = (xLoc d ↦[bSet i c b]{fullShare} m (xLoc d) : sProp 𝕄) := holds_eq d i (blkC mX i c b) (m (xLoc d))
/-- The same of a chunk of the result, whatever array it is cut from. -/
theorem blkY_pts (i : grid0.Coords) (c : Fin 16) (b : Fin 4) (g : Buf (Elt F) (oLoc d)) :
    Holds d i (blkC mY i c b) ((blkC mY i c b).view.read (Elt F) g) = (oLoc d ↦[bSet i c b]{fullShare} g : sProp 𝕄) := holds_eq d i (blkC mY i c b) g

/-- The table's entry that is added at an entry of a chunk is the chunk's own. -/
theorem tabIx_emb (i : grid0.Coords) (c : Fin 16) (b : Fin 4) (q : S8x1024.Idx) :
    tabIx ((blkC mX i c b).view.emb q) = (tabC i c).view.emb q := by
  have e := Shape.reshapeEquiv_cons_one (n := 2) (d := ![8, 1024]) (by decide) q
  funext a
  match a with
  | ⟨0, _⟩ => exact Fin.ext (congrArg (fun z => rowOf i c + 1 * z) (congrArg (fun z : S1x8x1024.Idx => (z 1).val) e))
  | ⟨1, _⟩ => exact Fin.ext (congrArg (fun z => 0 + 1 * z) (congrArg (fun z : S1x8x1024.Idx => (z 2).val) e))

/-- The result's block of chunk `c` is the loop's result on the blocks read. -/
theorem read_G (i : grid0.Coords) (c : Fin 16) (b : Fin 4) :
    (blkC mY i c b).view.read (Elt F) (G m d) = done (Xs m d i c b) (Pt m d i c) := by
  funext q
  show fma ((m (xLoc d) : S4x4096x1024.Idx → F .f32) ((blkC mX i c b).view.emb q)) ((m (pLoc d) : S4096x1024.Idx → F .f32) (tabIx ((blkC mX i c b).view.emb q)))
    = fma ((m (xLoc d) : S4x4096x1024.Idx → F .f32) ((blkC mX i c b).view.emb q)) ((m (pLoc d) : S4096x1024.Idx → F .f32) ((tabC i c).view.emb q))
  rw [tabIx_emb]

/-- A chunk that holds scaled input plus table is that chunk of the full result `G`. -/
theorem blkG_pts (i : grid0.Coords) (c : Fin 16) (b : Fin 4) :
    Holds d i (blkC mY i c b) (done (Xs m d i c b) (Pt m d i c)) = (oLoc d ↦[bSet i c b]{fullShare} G m d : sProp 𝕄) := by
  rw [← read_G]; exact blkY_pts d i c b (G m d)

/-- One chunk's blocks before the run. -/
theorem block_in (i : grid0.Coords) (c : Fin 16) :
    Blocks3 m d i (m (oLoc d)) c ⊢ iprop(In d i mX mP (Pt m d i) (Xs m d i) c ∗ Raw d i mY c) := by
  unfold Blocks3 Raw
  simp only [← tabC_pts, ← blkX_pts, ← blkY_pts, four_eq]
  iintro ⟨H, H', H''⟩
  isplitl [H H']
  · unfold In
    isplitl [H]; · iexact H
    iexact H'
  iexists fun b => (blkC mY i c b).view.read (Elt F) (m (oLoc d))
  iexact H''

/-- A subcore's blocks before its run, as its run takes them. -/
theorem share_in (i : grid0.Coords) :
    Share m d i (m (oLoc d)) ⊢ iprop(bigSep Finset.univ (In d i mX mP (Pt m d i) (Xs m d i)) ∗ bigSep Finset.univ (Raw d i mY) : sProp 𝕄) := by
  rw [← bigSep_sep']
  exact bigSep_mono fun c _ => block_in m d i c

/-- One chunk's blocks after the run. -/
theorem block_out (i : grid0.Coords) (c : Fin 16) :
    iprop(In d i mX mP (Pt m d i) (Xs m d i) c ∗ Fini d i mY (Pt m d i) (Xs m d i) c) ⊢ Blocks3 m d i (G m d) c := by
  unfold Blocks3 Fini In
  simp only [← tabC_pts, ← blkX_pts, ← blkG_pts, four_eq]
  iintro ⟨⟨H, H'⟩, H''⟩
  isplitl [H]; · iexact H
  isplitl [H']; · iexact H'
  iexact H''

/-- A subcore's blocks after its run, as its run leaves them. -/
theorem share_out (i : grid0.Coords) :
    iprop(bigSep Finset.univ (In d i mX mP (Pt m d i) (Xs m d i)) ∗ bigSep Finset.univ (Fini d i mY (Pt m d i) (Xs m d i)) : sProp 𝕄) ⊢ Share m d i (G m d) := by
  rw [← bigSep_sep']
  exact bigSep_mono fun c _ => block_out m d i c

attribute [irreducible] Share

end Cert.Proof
-- ==== Proof.Scratch.lean ====
/- A subcore's own memory. Fifteen of its buffers and six of its counters are the three sets that the chunks go through; at the
   kernel's entry and at its end nothing is in flight in any of them. -/
module

public import proofs.«01_k».proof.Proof.Deal

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The first set: the buffers and the counters of chunks 0, 3, 6, … -/
abbrev setA : BufSet := mkSet (Memref.whole cc0_scratch0) (Memref.whole cc0_scratch1) (Memref.whole cc0_scratch2) (Memref.whole cc0_scratch3)
  (Memref.whole cc0_scratch4) (Memref.isWhole_whole _) (Memref.isWhole_whole _) (Memref.isWhole_whole _) (Memref.isWhole_whole _)
  (Memref.isWhole_whole _) cc0_scratch15 cc0_scratch18
/-- The second: of chunks 1, 4, 7, … -/
abbrev setB : BufSet := mkSet (Memref.whole cc0_scratch5) (Memref.whole cc0_scratch6) (Memref.whole cc0_scratch7) (Memref.whole cc0_scratch8)
  (Memref.whole cc0_scratch9) (Memref.isWhole_whole _) (Memref.isWhole_whole _) (Memref.isWhole_whole _) (Memref.isWhole_whole _)
  (Memref.isWhole_whole _) cc0_scratch16 cc0_scratch19
/-- The third: of chunks 2, 5, 8, … -/
abbrev setC : BufSet := mkSet (Memref.whole cc0_scratch10) (Memref.whole cc0_scratch11) (Memref.whole cc0_scratch12) (Memref.whole cc0_scratch13)
  (Memref.whole cc0_scratch14) (Memref.isWhole_whole _) (Memref.isWhole_whole _) (Memref.isWhole_whole _) (Memref.isWhole_whole _)
  (Memref.isWhole_whole _) cc0_scratch17 cc0_scratch20
/-- The three sets. -/
abbrev sets : Fin 3 → BufSet := ![setA, setB, setC]

variable (d : Dev nD) (i : grid0.Coords)

section Family

variable (A : Fin 3 → BufSet)

/-- The buffer behind each block of three sets. -/
abbrev scr (k : Fin 3 × Fin 5) : Ref sig .scVector := ((A k.1).buf k.2).view.ref
/-- A set's two counters: the loads', the stores'. -/
abbrev ctr (k : Fin 3 × Fin 2) : DmaSem sig := (![(A k.1).rd, (A k.1).wr] k.2 : DmaSems sig S_).sem

/-- The sets' buffers. -/
def scrs : Finset (DevRef τ sig) := Finset.univ.image fun k => (th d i).2.devRef (scr A k)
/-- The sets' counters. -/
def ctrs : Finset (GSem nD τ sig) := Finset.univ.image fun k => ((th d i, SemLoc.dma (ctr A k)) : GSem nD τ sig)

/-- The subcore's other buffers. -/
def bufsRest : sProp 𝕄 := bigSep (ownRefs (th d i).2 \ scrs d i A) fun b => iprop(∃ f, (((th d i).1, b) : Loc nD τ sig) ↦{fullShare} f)
/-- The subcore's other counters. -/
def semsRest : sProp 𝕄 := bigSep (ownCells (th d i) \ ctrs d i A) fun g => semVal g 0

/-- A product over three, written out. -/
theorem three_eq (Φ : Fin 3 → sProp 𝕄) : bigSep Finset.univ Φ = iprop(Φ 0 ∗ Φ 1 ∗ Φ 2) := by
  rw [Transfers.bigSep_pending_zero, Transfers.bigSep_pending_step Φ 0 (by decide), Transfers.bigSep_pending_step Φ 1 (by decide),
    Transfers.bigSep_pending_last Φ 2 (by decide) rfl]
  rfl
/-- A product over two, written out. -/
theorem two_eq (Φ : Fin 2 → sProp 𝕄) : bigSep Finset.univ Φ = iprop(Φ 0 ∗ Φ 1) := by
  rw [Transfers.bigSep_pending_zero, Transfers.bigSep_pending_step Φ 0 (by decide), Transfers.bigSep_pending_last Φ 1 (by decide) rfl]
  rfl

/-- Scratch buffers of one subcore are among those that it owns. -/
theorem scrs_sub (ho : ∀ k, ((th d i).2.devRef (scr A k)).owner = .proc (th d i).2) : scrs d i A ⊆ ownRefs (th d i).2 := by
  intro b hb
  obtain ⟨k, -, rfl⟩ := Finset.mem_image.mp hb
  exact SparseCore.Cfg.mem_ownRefs_of_owner (ho k)

/-- The sets' buffers, one by one. -/
theorem scrs_each (hi : Function.Injective (scr A)) (Φ : DevRef τ sig → sProp 𝕄) :
    bigSep (scrs d i A) Φ = bigSep Finset.univ fun k : Fin 3 => bigSep Finset.univ fun t : Fin 5 => Φ ((th d i).2.devRef (scr A (k, t))) := by
  unfold scrs
  have h : Set.InjOn (fun k => (th d i).2.devRef (scr A k)) (Finset.univ : Finset (Fin 3 × Fin 5)) :=
    fun a _ b _ h => hi (Proc.devRef_injective _ h)
  exact (SparseCore.bigSep_image_of_injOn h Φ).trans (bigSep_univ_prod _)

/-- The subcore's own buffers are the sets' and the others. -/
theorem own_bufs (hi : Function.Injective (scr A)) (ho : ∀ k, ((th d i).2.devRef (scr A k)).owner = .proc (th d i).2) :
    (ownBufs (th d i) : sProp 𝕄)
    = iprop((bigSep Finset.univ fun k : Fin 3 => bigSep Finset.univ fun t : Fin 5 =>
        iprop(∃ f, ((A k).buf t).view.loc (th d i) ↦{fullShare} f)) ∗ bufsRest d i A) := by
  unfold SparseCore.Cfg.ownBufs bufsRest
  have e := scrs_each (F := F) d i A hi fun b => iprop(∃ f, (((th d i).1, b) : Loc nD τ sig) ↦{fullShare} f)
  rw [SparseCore.bigSep_sdiff_split' (scrs_sub d i A ho), e]

/-- The subcore's own counters are the sets' and the others. -/
theorem own_sems (hi : Function.Injective fun k => (SemLoc.dma (ctr A k) : SemLoc sig))
    (ho : ∀ k, (SemLoc.dma (ctr A k) : SemLoc sig).isScoped .scVector = true) : (ownSems0 (th d i) : sProp 𝕄)
    = iprop((bigSep Finset.univ fun k : Fin 3 => iprop(Zero d i (A k).rd ∗ Zero d i (A k).wr)) ∗ semsRest d i A) := by
  unfold SparseCore.Cfg.ownSems0 semsRest
  have hsub : ctrs d i A ⊆ ownCells (th d i) := by
    intro g hg
    obtain ⟨k, -, rfl⟩ := Finset.mem_image.mp hg
    exact mem_ownCells.mpr ⟨rfl, ho k⟩
  rw [SparseCore.bigSep_sdiff_split' hsub]
  refine congrArg (fun z : sProp 𝕄 => iprop(z ∗ _)) ?_
  unfold ctrs
  rw [SparseCore.bigSep_image_of_injOn (fun a _ b _ h => hi (Prod.ext_iff.mp h).2), bigSep_univ_prod]
  refine bigSep_congr fun k _ => ?_
  rw [two_eq]; rfl

end Family

/-- A whole block at some contents is its buffer at some contents. -/
theorem holds_whole (v : VM) (hv : v.IsWhole) :
    iprop(∃ X, Holds (F := F) d i v X) = iprop(∃ f, v.view.loc (th d i) ↦{fullShare} f) := by
  have h1 : iprop(∃ X, Holds (F := F) d i v X) ⊢ iprop(∃ f, v.view.loc (th d i) ↦{fullShare} f) := by
    unfold Holds
    rw [hv.set_eq_univ]
    iintro ⟨%X, %f, -, H⟩
    iexists f; iexact H
  have h2 : iprop(∃ f, v.view.loc (th d i) ↦{fullShare} f) ⊢ iprop(∃ X, Holds (F := F) d i v X) := by
    unfold Holds
    rw [hv.set_eq_univ]
    iintro ⟨%f, H⟩
    iexists _; iexists f
    isplitr
    · ipureintro; rfl
    iexact H
  exact BI.Entails.antisymm h1 h2

/-- Five blocks each at some contents are the five at some contents. -/
theorem five_exists (Φ : Fin 5 → Blk F → sProp 𝕄) :
    iprop(∃ Y : Fin 5 → Blk F, five fun t => Φ t (Y t)) = bigSep Finset.univ fun t => iprop(∃ X, Φ t X) := by
  have : Nonempty (Blk F) := ⟨fun _ => FloatOps.ofBits .f32 0⟩
  have h1 : iprop(∃ Y : Fin 5 → Blk F, five fun t => Φ t (Y t)) ⊢ bigSep Finset.univ fun t => iprop(∃ X, Φ t X) := by
    rw [five_eq]
    iintro ⟨%Y, H0, H1, H2, H3, H4⟩
    isplitl [H0]; · iexists Y 0; iexact H0
    isplitl [H1]; · iexists Y 1; iexact H1
    isplitl [H2]; · iexists Y 2; iexact H2
    isplitl [H3]; · iexists Y 3; iexact H3
    iexists Y 4; iexact H4
  have h2 : (bigSep Finset.univ fun t => iprop(∃ X, Φ t X)) ⊢ iprop(∃ Y : Fin 5 → Blk F, five fun t => Φ t (Y t)) := by
    refine (bigSep_exists_pi Finset.univ Φ).trans ?_
    iintro ⟨%Y, H⟩
    iexists Y
    ihave H := (Entails.of_eq (five_eq fun t => Φ t (Y t))) $$ H
    iexact H
  exact BI.Entails.antisymm h1 h2

/-- A set with nothing in flight is its buffers at some contents and its counters at zero. -/
theorem idle_eq (A : BufSet) : (Idle d i A : sProp 𝕄)
    = iprop((bigSep Finset.univ fun t : Fin 5 => iprop(∃ f, (A.buf t).view.loc (th d i) ↦{fullShare} f)) ∗ (Zero d i A.rd ∗ Zero d i A.wr)) := by
  unfold Idle
  rw [five_exists (fun t X => Holds d i (A.buf t) X)]
  refine congrArg (fun z : sProp 𝕄 => iprop(z ∗ _)) (bigSep_congr fun t _ => ?_)
  exact holds_whole d i (A.buf t) (A.whole t)

/-- The fifteen buffers are different. -/
theorem sets_injective : Function.Injective (scr sets) := by decide
/-- The fifteen buffers are the subcore's own. -/
theorem sets_own (c : Fin τ.nSC) (j : Fin τ.nSub) : ∀ k, ((Proc.scVector c j).devRef (scr sets k)).owner = .proc (.scVector c j) := by
  rintro ⟨a, b⟩
  fin_cases a <;> fin_cases b <;> rfl
/-- The six counters are different. -/
theorem ctr_injective : Function.Injective (fun k => (SemLoc.dma (ctr sets k) : SemLoc sig)) := by decide
/-- The six counters are a subcore's. -/
theorem ctr_scoped : ∀ k, (SemLoc.dma (ctr sets k) : SemLoc sig).isScoped .scVector = true := by decide

/-- The subcore's own memory is the three sets, idle, and the rest. -/
theorem own_eq : iprop(ownBufs (th d i) ∗ ownSems0 (th d i) : sProp 𝕄)
    = iprop((Idle d i setA ∗ Idle d i setB ∗ Idle d i setC) ∗ (bufsRest d i sets ∗ semsRest d i sets)) := by
  have e : iprop(Idle d i setA ∗ Idle d i setB ∗ Idle d i setC : sProp 𝕄) = bigSep Finset.univ fun k => Idle d i (sets k) :=
    (three_eq (F := F) fun k => Idle d i (sets k)).symm
  rw [e, own_bufs d i sets sets_injective (sets_own _ _), own_sems d i sets ctr_injective ctr_scoped]
  generalize sets = A
  simp only [idle_eq, bigSep_sep']
  have h1 (A B C D E : sProp 𝕄) : iprop((A ∗ D) ∗ ((B ∗ C) ∗ E)) ⊢ iprop((A ∗ B ∗ C) ∗ (D ∗ E)) := by
    iintro ⟨⟨HA, HD⟩, ⟨HB, HC⟩, HE⟩
    isplitl [HA HB HC]
    · isplitl [HA]; · iexact HA
      isplitl [HB] <;> iassumption
    isplitl [HD] <;> iassumption
  have h2 (A B C D E : sProp 𝕄) : iprop((A ∗ B ∗ C) ∗ (D ∗ E)) ⊢ iprop((A ∗ D) ∗ ((B ∗ C) ∗ E)) := by
    iintro ⟨⟨HA, HB, HC⟩, HD, HE⟩
    isplitl [HA HD]
    · isplitl [HA] <;> iassumption
    isplitl [HB HC]
    · isplitl [HB] <;> iassumption
    iexact HE
  exact BI.Entails.antisymm (h1 _ _ _ _ _) (h2 _ _ _ _ _)

end Cert.Proof
-- ==== Proof.Launch.lean ====
/- The program's run. The call deals every subcore its blocks of the three arrays and takes them back with the result's
   blocks written; what the program ends with is the batch array and the table as they were and the result `G`. -/
module

public import proofs.«01_k».proof.Proof.Body
public import proofs.«01_k».proof.Proof.Chunks
public import proofs.«01_k».proof.Proof.Scratch

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The program as the launch theorem takes it -/

abbrev ΛP : Labels := Pipeline.Sig Λ₀ (Fin 0) fun p => (pcfgs (F := F) p).Adm
/-- The one SparseCore launch. -/
abbrev K : SparseCore.Cfg τ sig (ΛP (F := F)) 1 := sc (F := F)
/-- The program's procedures. -/
abbrev D : Defs nD τ sig (Elt F) (ΛP (F := F)) := Pipeline.defs pcfgs defs₀
/-- No loop of the program needs a variant. -/
abbrev 𝒱 : Variants := Variants.none.lift
/-- The only variant there is. -/
abbrev v₀ : 𝒱.V := Sum.inl none

/-- What a launch must satisfy of its shape. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Where the handshakes' rounds lie in the ghost state. -/
abbrev EH : Emb UH (MT nD τ sig (HIx 1) (Elt F) ℕ UU ℕ) := embL

variable (m : (ℓ : Loc nD τ sig) → Buf (Elt F) ℓ) (ρ : Dev nD → PrngReg)

/-- The launch runs on two SparseCores. -/
theorem nCore_zero : (K (F := F)).nCore 0 = 2 := rfl
/-- Each has sixteen subcores. -/
theorem nSub_zero : (K (F := F)).nSub 0 = 16 := rfl

/-- The point of subcore `j` of core `c` of the call. -/
abbrev ptK (c : Fin ((K (F := F)).nCore 0)) (j : Fin ((K (F := F)).nSub 0)) : grid0.Coords :=
  pt (Fin.cast (nCore_zero (F := F)) c) (Fin.cast (nSub_zero (F := F)) j)

/-- What the handshakes carry: a core's blocks of the arrays, and of those each subcore's; back come the same with the
    result written. -/
def P : (K (F := F)).Pay (nD := nD) (Val := Elt F) (Name := ℕ) (U := UU) where
  st := fun q d c => match q with
    | 0 => bigSep Finset.univ fun j : Fin ((K (F := F)).nSub 0) => Share m d (ptK c j) (m (oLoc d))
  dn := fun q d c => match q with
    | 0 => bigSep Finset.univ fun j : Fin ((K (F := F)).nSub 0) => Share m d (ptK c j) (G m d)
  go := fun q d c j => match q with | 0 => Share m d (ptK c j) (m (oLoc d))
  td := fun q d c j => match q with | 0 => Share m d (ptK c j) (G m d)
  x := fun _ _ => iprop(emp)

/-- Everything the launch hands over may be stored. -/
instance P_storable : (P (F := F) m).IsStorable where
  st q d c := match q with
    | 0 => (inferInstance : Storable (upEmb : UEmb _ 𝕄) (bigSep Finset.univ fun j : Fin ((K (F := F)).nSub 0) => Share m d (ptK c j) (m (oLoc d))))
  dn q d c := match q with
    | 0 => (inferInstance : Storable (upEmb : UEmb _ 𝕄) (bigSep Finset.univ fun j : Fin ((K (F := F)).nSub 0) => Share m d (ptK c j) (G m d)))
  go q d c j := match q with | 0 => (inferInstance : Storable (upEmb : UEmb _ 𝕄) (Share m d (ptK c j) (m (oLoc d))))
  td q d c j := match q with | 0 => (inferInstance : Storable (upEmb : UEmb _ 𝕄) (Share m d (ptK c j) (G m d)))

/-! ## A subcore's run -/

section Tile

variable (d : Dev nD) (L : grid0.Coords)

/-- The kernel at a grid point, on its arrays and its own memory. -/
abbrev kern : TP F L PUnit :=
  cc0_k L mX (Memref.isWhole_whole _) mP (Memref.isWhole_whole _) mY (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    (Memref.whole cc0_scratch12) (Memref.isWhole_whole _) (Memref.whole cc0_scratch13) (Memref.isWhole_whole _)
    (Memref.whole cc0_scratch14) (Memref.isWhole_whole _)
    cc0_scratch15 cc0_scratch16 cc0_scratch17 cc0_scratch18 cc0_scratch19 cc0_scratch20

/-- Every copy into the first set of buffers counts the same. -/
theorem setA_credit : ∀ t, (setA.buf t).view.dmaCredit = (setA.buf 0).view.dmaCredit := by decide
/-- So does every copy into the second. -/
theorem setB_credit : ∀ t, (setB.buf t).view.dmaCredit = (setA.buf 0).view.dmaCredit := by decide
/-- So does every copy into the third. -/
theorem setC_credit : ∀ t, (setC.buf t).view.dmaCredit = (setA.buf 0).view.dmaCredit := by decide
/-- So does every copy out. -/
theorem outC_credit (c : Fin 16) : ∀ t, ((outC L mY c).at_ t).view.dmaCredit = (blk mY ![0, 0, 0] (by decide)).view.dmaCredit
  | ⟨0, _⟩ => rfl
  | ⟨1, _⟩ => rfl
  | ⟨2, _⟩ => rfl
  | ⟨3, _⟩ => rfl

/-- A subcore's run takes its blocks and its own memory, and leaves the result written in its blocks. -/
theorem tile_body (hF : (K (F := F)).Facts) (O : CellTallies nD τ sig (HIx 1)) (W : Waits sig (HIx 1)) (hO : ∀ g, O g none = 0) :
    iprop(levAts (K (F := F)).L (K (F := F)).lev ∗ emp ∗ Share m d L (m (oLoc d))
        ∗ scopedBufs (th d L) ∗ scopedSems0 (th d L) ∗ owes (th d L) O W)
      ⊢ WP d L (kern L) fun _ => iprop(Share m d L (G m d) ∗ scopedBufs (th d L) ∗ scopedSems0 (th d L)
          ∗ ∃ W', ⌜∀ p ∈ W', p ∈ W ∨ p.2 = none⌝ ∗ owes (th d L) O W') := by
  have hk : kern (F := F) L = body L mX mP mY setA setB setC := body_eq ..
  rw [hk, (K (F := F)).scopedBufs_V hF d ((L 0).castLE hcore0) ((L 1).castLE hsub0),
    SparseCore.Cfg.scopedSems0_V (Val := Elt F) d ((L 0).castLE hcore0) ((L 1).castLE hsub0)]
  iintro ⟨#Hlv, -, HS, HB, HC, HO⟩
  ihave Hmw := (show levAts (K (F := F)).L (K (F := F)).lev ⊢ Transfers.MayWaits (th d L) (none : HIx 1) O from
    (K (F := F)).mayWaits_none (thr := th d L) hO) $$ Hlv
  ihave HI := (share_in m d L) $$ HS
  icases HI with ⟨HI, HR⟩
  ihave HM := (Entails.of_eq (own_eq (F := F) d L)) $$ [HB HC]
  · isplitl [HB] <;> iassumption
  icases HM with ⟨⟨HA, HB, HC⟩, Hrest⟩
  iapply (wp_wand_r frame (wpE (defs₀ (F := F)) Variants.none (th d L) none))
  isplitl [HI HR HA HB HC HO Hmw]
  · iapply (wp_body d L mX mP mY (Pt m d L) (Xs m d L) (setA.buf 0).view.dmaCredit (blk mY ![0, 0, 0] (by decide)).view.dmaCredit O W
      setA setB setC setA_credit setB_credit setC_credit (outC_credit L))
    isplitl [HI]; · iexact HI
    isplitl [HR]; · iexact HR
    isplitl [HA]; · iexact HA
    isplitl [HB]; · iexact HB
    isplitl [HC]; · iexact HC
    unfold Ow
    isplitl [Hmw]; · iexact Hmw
    iexists W
    isplitr
    · ipureintro; exact fun p hp => .inl hp
    iexact HO
  iintro %_ ⟨HI, HR, HA, HB, HC, HO⟩
  isplitl [HI HR]
  · iapply (share_out m d L)
    isplitl [HI] <;> iassumption
  ihave HM := (Entails.of_eq (own_eq (F := F) d L).symm) $$ [HA HB HC Hrest]
  · isplitl [HA HB HC]
    · isplitl [HA]; · iexact HA
      isplitl [HB] <;> iassumption
    iexact Hrest
  icases HM with ⟨HB, HC⟩
  isplitl [HB]; · iexact HB
  isplitl [HC]; · iexact HC
  unfold Ow
  icases HO with ⟨-, HO⟩
  iexact HO

/-- A vector subcore's procedure is the kernel at its grid point. -/
theorem defs₀_vector (c : Fin τ.nSC) (s : Fin τ.nSub) :
    defs₀ (F := F) (.scVector c s) 0 () = SparseCore.onTile hcore0 hsub0 (fun c s => kern (pt c s)) ⟨⟩ c s := rfl

/-- What a subcore ends with, in the order in which the launch asks for it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore meets its part of the launch. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) Variants.none _ Set.univ none _ _)
  rw [defs₀_vector]; simp only [SparseCore.onTile, hci, and_self, ↓reduceDIte]
  exact (tile_body m d (pt ⟨_, hci.1⟩ ⟨_, hci.2⟩) hF O W hO).trans (wp_mono frame _ _ fun _ => obl_post)

end Tile

/-- A core's blocks are its subcores'. -/
theorem vecSplit : (K (F := F)).VecSplit' (P m) 0 := by
  intro d c
  show bigSep Finset.univ (fun j : Fin ((K (F := F)).nSub 0) => Share m d (ptK c j) (m (oLoc d))) ⊢ |={Set.univ}=> iprop(
      (bigSep Finset.univ fun j : Fin ((K (F := F)).nSub 0) => Share m d (ptK c j) (m (oLoc d)))
      ∗ ((bigSep Finset.univ fun j : Fin ((K (F := F)).nSub 0) => Share m d (ptK c j) (G m d))
          -∗ bigSep Finset.univ fun j : Fin ((K (F := F)).nSub 0) => Share m d (ptK c j) (G m d)))
  iintro H; imodintro
  isplitl [H]; · iexact H
  iintro H; iexact H

/-! ## The launch's ghost state -/

def u₀ : UU := (initOf (K (F := F)).hsCells (K (F := F)).hsToks, 1)

/-- A product of nothing is nothing. -/
theorem bigSep_emp' {I : Type} (s : Finset I) : (bigSep s fun _ => iprop(emp)) = (iprop(emp) : sProp 𝕄) := bigSep_emp_const s

/-- The first ghost state is that of the handshakes; each subcore's part of it is nothing. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore -/

/-- The buffers outside every scope are the three arrays. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The three arrays whole, the result's holding `g`. -/
abbrev Whole3 (d : Dev nD) (g : Buf (Elt F) (oLoc d)) : sProp 𝕄 :=
  iprop((xLoc d ↦{fullShare} m (xLoc d)) ∗ (pLoc d ↦{fullShare} m (pLoc d)) ∗ oLoc d ↦{fullShare} g)

/-- What the launch takes at its start is the three arrays whole. -/
theorem st0_eq (d : Dev nD) : (bigSep Finset.univ fun c : Fin ((K (F := F)).nCore 0) => (P m).st 0 d c) = Whole3 m d (m (oLoc d)) :=
  (deal m d _).symm
/-- What it gives back is the three arrays, the result full. -/
theorem dn0_eq (d : Dev nD) : (bigSep Finset.univ fun c : Fin ((K (F := F)).nCore 0) => (P m).dn 0 d c) = Whole3 m d (G m d) :=
  (deal m d _).symm

/-- The program on a device: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Whole3 m d (G m d) ∗ (K (F := F)).tcEnd d) := by
  unfold SparseCore.Cfg.tcRes SparseCore.Cfg.tcEnd
  rw [unscopedBufs_eq]
  simp only [main, wp_bind, wp_pure]
  iintro ⟨#Hctx, Hst, ⟨Hb, HW, Hts, -⟩, -⟩
  iapply ((K (F := F)).wp_run (D (F := F)) 𝒱 (EH := EH) (P := P m) κ d 0) $$ [Hst HW Hb Hts]
  isplitr; · iexact Hctx
  isplitl [Hst]; · iexact Hst
  isplitl [HW]
  · rw [st0_eq]; iexact HW
  iintro ⟨Hst, Hdn⟩
  ihave HW := (Entails.of_eq (dn0_eq m d)) $$ Hdn
  imodintro
  isplitl [Hst]; · iexact Hst
  isplitl [HW]; · iexact HW
  isplitl [Hb] <;> iassumption

/-- What a device ends with. -/
def fq (d : Dev nD) (s' : Phys nD τ sig (Elt F)) : Prop :=
  s'.mem.mem (xLoc d) = m (xLoc d) ∧ s'.mem.mem (pLoc d) = m (pLoc d) ∧ s'.mem.mem (oLoc d) = G m d

set_option maxRecDepth 16384 in
/-- What a finished run owns says what the arrays hold. -/
theorem hfin (d : Dev nD) (s' : Phys nD τ sig (Elt F)) : iprop(Whole3 m d (G m d) ∗ SI s') ⊢ (⌜fq m d s'⌝ : sProp 𝕄) := by
  iintro ⟨⟨Hx, Hp, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := oLoc d) (I := Finset.univ) (q := fullShare) (f := G m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- What the program ends with: its arguments as they were, the result written, every counter at zero. -/
def QC : PUnit × MemSt nD τ sig (Elt F) → Prop := fun r =>
  (∀ c : Dev nD, r.2.mem (xLoc c) = m (xLoc c) ∧ r.2.mem (pLoc c) = m (pLoc c) ∧ r.2.mem (oLoc c) = G m c) ∧ r.2.sem = fun _ => 0

/-- Every execution of the program ends, and so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (fun d => Whole3 m d (G m d)) (u₀ (F := F)) (sep_elim_left.trans (hu₀ m)) (hmain m ρ) (fq m) (hfin m) (QC m)
    (fun _ h hz => ⟨h, hz⟩)

end Cert.Proof
-- ==== Proof.Value.lean ====
/- The reference's value. Its table lookup takes row `r` of the table for position `r`: the positions count up from zero, none
   is negative and none is past the table, so what it adds is the table itself, and its result is the kernel's. -/
module

public import proofs.«01_k».proof.Proof.Launch
public import proofs.«01_k».proof.Proof.Gen.ReferenceIdeal.Run
public import Idealize.ShloMosaic.Lib.ReduceAll
public import Idealize.ShloMosaic.Lib.StableHlo.Predicate

@[expose] public section

noncomputable section

namespace Cert.Proof.Ref

open Cert.ReferenceIdeal Cert.ReferenceIdeal.Gen
open Idealize.ShloMosaic Idealize.ShloMosaic.StableHlo Idealize.ShloMosaic.StableHlo.Predicate Idealize.SL.Sem

variable {α : Type}

/-- The rows the lookup takes: the positions, a negative one counted from the table's end. -/
abbrev rows : IVec S4096x1 32 :=
  broadcastInDim S4096x1 ![0] bcast_S4096_S4096x1_0 (select (cmpi .slt (iotaInDim S4096 32 0) (broadcastInDim S4096 ![] bcast_S_S4096 (constantI S_ 32 0#32)))
    (addi (iotaInDim S4096 32 0) (broadcastInDim S4096 ![] bcast_S_S4096 (constantI S_ 32 4096#32))) (iotaInDim S4096 32 0))
/-- Which of those rows the table has. -/
abbrev mask : IVec S4096 1 :=
  Host.reduce IntOp.andi (andi (cmpi .sge rows (broadcastInDim S4096x1 ![] bcast_S_S4096x1 (constantI S_ 32 0#32)))
      (cmpi .sle rows (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_

/-- A position that is not negative is taken as it is. -/
theorem keep_pos (n : ℕ) (hn : n < 4096) (w : BitVec 32) :
    Scalar.select (IntOp.cmpi .slt (BitVec.ofNat 32 n) 0#32) w (BitVec.ofNat 32 n) = BitVec.ofNat 32 n := by
  have h : ¬ IntOp.cmpi .slt (BitVec.ofNat 32 n) 0#32 = 1#1 := by
    rw [slt_iff_toNat (by rw [BitVec.toNat_ofNat]; omega) (by decide)]
    simp
  unfold Scalar.select
  exact if_neg h

/-- Row `r` is taken for position `r`. -/
theorem rows_apply (y : S4096x1.Idx) : rows y = BitVec.ofNat 32 (y 0).val :=
  keep_pos (y 0).val (y 0).isLt _

/-- The table has every row taken. -/
theorem mask_apply (r : S4096.Idx) : mask r = 1#1 := by
  refine Host.reduce_andi_one _ _ _ _ r rfl fun y => ?_
  have hy : (y 0).val < 4096 := (y 0).isLt
  have hn : (BitVec.ofNat 32 (y 0).val).toNat = (y 0).val := by rw [BitVec.toNat_ofNat]; omega
  show IntOp.andi (IntOp.cmpi .sge (rows y) 0#32) (IntOp.cmpi .sle (rows y) 4095#32) = 1#1
  rw [rows_apply, (sge_iff_toNat (a := BitVec.ofNat 32 (y 0).val) (b := 0#32) (by omega) (by decide)).mpr (Nat.zero_le _),
    (sle_iff_toNat (a := BitVec.ofNat 32 (y 0).val) (b := 4095#32) (by omega) (by decide)).mpr (by
      rw [hn]; show (y 0).val ≤ 4095; omega)]
  decide

/-- The lookup's shape: whole rows, by row number. -/
abbrev look : GatherDims S4096x1024 S4096x1 S4096x1024 := gather_S4096x1024_S4096x1_S4096x1024_1_0_n_n_0_1_11024

/-- The lookup's entry at `y` lies in row `y 0` of the table. -/
theorem look_row (y : S4096x1024.Idx) : look.start y rows 0 + look.batchCoord y 0 + look.offCoord y 0 = (y 0).val := by
  have hy : (y 0).val < 4096 := (y 0).isLt
  rw [GatherDims.batchCoord_eq_zero _ _ _ (by decide), GatherDims.offCoord_eq_zero _ _ _ (by decide)]
  unfold GatherDims.start
  rw [dif_pos (show (0 : Fin 2) ∈ look.startIndexMap from List.mem_singleton.mpr rfl), rows_apply]
  show min (BitVec.ofNat 32 (y 0).val).toInt.toNat 4095 + 0 + 0 = (y 0).val
  rw [toInt_ofNat_small _ (by omega)]
  omega

/-- It lies in column `y 1`. -/
theorem look_col (y : S4096x1024.Idx) : look.start y rows 1 + look.batchCoord y 1 + look.offCoord y 1 = (y 1).val := by
  rw [GatherDims.batchCoord_eq_zero _ _ _ (by decide)]
  unfold GatherDims.start GatherDims.offCoord
  rw [dif_neg (by decide), dif_pos (by decide)]
  show 0 + 0 + (y 1).val = (y 1).val
  omega

/-- The lookup gives the table. -/
theorem look_all (T : S4096x1024.Idx → α) : Host.gather look T rows = T := by
  funext y
  unfold Host.gather
  refine congrArg T (funext fun a => Fin.ext ?_)
  match a with
  | ⟨0, _⟩ => exact look_row y
  | ⟨1, _⟩ => exact look_col y

/-- What the reference ends with, of a batch array and a table. -/
abbrev value (x : S4x4096x1024.Idx → Ideal .f32) (T : S4096x1024.Idx → Ideal .f32) : S4x4096x1024.Idx → Ideal .f32 :=
  addf (mulf (broadcastInDim S4x4096x1024 ![] bcast_S_S4x4096x1024 (constant S_ .f32 0x42000000#32)) x)
    (broadcastInDim S4x4096x1024 ![0, 1, 2] bcast_S1x4096x1024_S4x4096x1024_0_1_2 (broadcastInDim S1x4096x1024 ![1, 2] bcast_S4096x1024_S1x4096x1024_1_2
      (select (broadcastInDim S4096x1024 ![0] bcast_S4096_S4096x1024_0 mask) (Host.gather look T rows)
        (broadcastInDim S4096x1024 ![] bcast_S_S4096x1024 (constant S_ .f32 0x7FC00000#32)))))

/-- Every row taken is the table's, so nothing is put in its place. -/
theorem taken (T Z : S4096x1024.Idx → α) :
    select (broadcastInDim S4096x1024 ![0] bcast_S4096_S4096x1024_0 mask) (Host.gather look T rows) Z = T := by
  rw [look_all]
  funext y
  exact if_pos (mask_apply _)

/-- The table, laid under every batch, has at an index the element at its row and column. -/
theorem under (T : S4096x1024.Idx → α) (y : S4x4096x1024.Idx) :
    broadcastInDim S4x4096x1024 ![0, 1, 2] bcast_S1x4096x1024_S4x4096x1024_0_1_2 (broadcastInDim S1x4096x1024 ![1, 2] bcast_S4096x1024_S1x4096x1024_1_2 T) y
      = T (tabIx y) := by
  unfold broadcastInDim
  refine congrArg T (funext fun a => ?_)
  match a with
  | ⟨0, _⟩ => rfl
  | ⟨1, _⟩ => rfl

/-- The reference's result is the kernel's: times 32 from either side, plus the table. -/
theorem value_eq (x : S4x4096x1024.Idx → Ideal .f32) (T : S4096x1024.Idx → Ideal .f32) :
    value x T = fun y => fma (x y) (T (tabIx y)) := by
  funext y
  unfold value
  rw [taken]
  show FloatOps.addf (FloatOps.mulf c32 (x y)) (broadcastInDim S4x4096x1024 ![0, 1, 2] bcast_S1x4096x1024_S4x4096x1024_0_1_2
    (broadcastInDim S1x4096x1024 ![1, 2] bcast_S4096x1024_S1x4096x1024_1_2 T) y) = FloatOps.addf (FloatOps.mulf (x y) c32) (T (tabIx y))
  rw [under]
  have h : FloatOps.mulf (F := Ideal) c32 (x y) = FloatOps.mulf (x y) c32 := mul_comm (G := EReal) _ _
  rw [h]

end Cert.Proof.Ref
-- ==== Proof.lean ====
/- The claims. The three programs run, leave their arguments as they were and every counter at zero; read over the reals the
   kernel's result is the reference's. The kernel's run is one theorem over any float values (`run_main`); the reference's is
   its operations composed, shown to be the same array (`Ref.value_eq`). -/
module

public import proofs.«01_k».proof.Defs
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel, on machine floats, ends with its arguments as they were and every counter at zero. -/
theorem frame_kernel : Cert.quiescent_Kernel := fun m ρ _ =>
  (θ_run (Cert.KernelIdeal.defs (F := Bits)) _ _).mono (fun _ h => ⟨fun c => ⟨(h.1 c).1, (h.1 c).2.1⟩, h.2⟩) (run_main (F := Bits) m ρ)

/-- So it does on extended reals. -/
theorem frame_ideal : Cert.quiescent_KernelIdeal := fun m ρ _ =>
  (θ_run (Cert.KernelIdeal.defs (F := Ideal)) _ _).mono (fun _ h => ⟨fun c => ⟨(h.1 c).1, (h.1 c).2.1⟩, h.2⟩) (run_main (F := Ideal) m ρ)

/-- The reference ends with its arguments as they were; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments the kernel and the reference end with the same result. -/
theorem same_result : Cert.algebraic_KernelIdeal_ReferenceIdeal := by
  intro m ρ m' ρ' _ hm
  refine ⟨fun c => G m c, ?_, ?_⟩
  · exact (θ_run (Cert.KernelIdeal.defs (F := Ideal)) _ _).mono (fun _ h c => ⟨(h.1 c).2.2, (h.1 c).1, (h.1 c).2.1⟩) (run_main (F := Ideal) m ρ)
  · refine (θ_run Cert.ReferenceIdeal.defs _ _).mono (fun r h c => ⟨(h c).1.trans ?_, (h c).2⟩) (Cert.ReferenceIdeal.Value.run (F := Ideal) m' ρ')
    rw [(hm c).1, (hm c).2]
    exact Ref.value_eq _ _

/-- All of the claims. -/
theorem claim : Cert.Claim := ⟨Cert.Kernel.Gen.facts, Cert.KernelIdeal.Gen.facts, Cert.ReferenceIdeal.Gen.facts,
  frame_kernel, frame_ideal, frame_reference, trivial, same_result⟩

end Cert.Proof

end
